-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S8x900x91 : Shape := ⟨3, ![8, 900, 91]⟩
abbrev S8x900x4 : Shape := ⟨3, ![8, 900, 4]⟩
abbrev S8x300 : Shape := ⟨2, ![8, 300]⟩
abbrev S8x300x4 : Shape := ⟨3, ![8, 300, 4]⟩
abbrev S_ : Shape := ⟨0, ![]⟩

class Facts : Prop where
  bcast_S_S8x300 : S_.BroadcastsInDim S8x300 (![] : Fin 0 → Fin S8x300.rank)
  reducesTo_S8x300_S_d0_1 : S8x300.ReducesTo [0, 1] S_
  h_S_ : 0 < S_.numel

variable [Facts]

def fn {F : FTy → Type} [FloatOps F] (main_arg0 : FVec F S8x900x91 .f32) (main_arg1 : FVec F S8x900x4 .f32) (main_arg2 : IVec S8x300 32) (main_arg3 : FVec F S8x300x4 .f32) : IVec S_ 1 :=
  let main_c : IVec S_ 32 := constantI S_ 32 0#32
  let main_v0 : IVec S8x300 32 := broadcastInDim S8x300 ![] bcast_S_S8x300 main_c
  let main_v1 : IVec S8x300 1 := cmpi .sge main_arg2 main_v0
  let main_c_0 : IVec S_ 32 := constantI S_ 32 91#32
  let main_v2 : IVec S8x300 32 := broadcastInDim S8x300 ![] bcast_S_S8x300 main_c_0
  let main_v3 : IVec S8x300 1 := cmpi .slt main_arg2 main_v2
  let main_v4 : IVec S8x300 1 := andi main_v1 main_v3
  let main_c_1 : IVec S_ 1 := constantI S_ 1 1#1
  let main_v5 : IVec S_ 1 := (fun x v => Host.reduce IntOp.andi x v reducesTo_S8x300_S_d0_1 h_S_) main_v4 main_c_1
  main_v5
-- ==== Kernel.lean ====
abbrev S8x900x91 : Shape := ⟨3, ![8, 900, 91]⟩
abbrev S8x900x4 : Shape := ⟨3, ![8, 900, 4]⟩
abbrev S8x300 : Shape := ⟨2, ![8, 300]⟩
abbrev S8x300x4 : Shape := ⟨3, ![8, 300, 4]⟩
abbrev S8x4x900 : Shape := ⟨3, ![8, 4, 900]⟩
abbrev S8x300x1 : Shape := ⟨3, ![8, 300, 1]⟩
abbrev S8x300x6 : Shape := ⟨3, ![8, 300, 6]⟩
abbrev S1x900x91 : Shape := ⟨3, ![1, 900, 91]⟩
abbrev S1x4x900 : Shape := ⟨3, ![1, 4, 900]⟩
abbrev S1x300x1 : Shape := ⟨3, ![1, 300, 1]⟩
abbrev S1x300x4 : Shape := ⟨3, ![1, 300, 4]⟩
abbrev S1x300x6 : Shape := ⟨3, ![1, 300, 6]⟩
abbrev S900x91 : Shape := ⟨2, ![900, 91]⟩
abbrev S300x1 : Shape := ⟨2, ![300, 1]⟩
abbrev S300x91 : Shape := ⟨2, ![300, 91]⟩
abbrev S300x900 : Shape := ⟨2, ![300, 900]⟩
abbrev S4x900 : Shape := ⟨2, ![4, 900]⟩
abbrev S1x900 : Shape := ⟨2, ![1, 900]⟩
abbrev S300x4 : Shape := ⟨2, ![300, 4]⟩
abbrev S300 : Shape := ⟨1, ![300]⟩
abbrev S300x6 : Shape := ⟨2, ![300, 6]⟩
abbrev S8x6x300 : Shape := ⟨3, ![8, 6, 300]⟩
abbrev S8x1800 : Shape := ⟨2, ![8, 1800]⟩

abbrev nBuf : Space → Nat
  | .hbm => 11
  | .vmem => 12
  | .smem => 0
  | _ => 0

abbrev bufTy : (tb : Table) → Fin (tcTables nBuf tb) → BufTy
  | .hbm, ⟨0, _⟩ => ⟨S8x900x91, .f32⟩
  | .hbm, ⟨1, _⟩ => ⟨S8x900x4, .f32⟩
  | .hbm, ⟨2, _⟩ => ⟨S8x300, .i32⟩
  | .hbm, ⟨3, _⟩ => ⟨S8x300x4, .f32⟩
  | .hbm, ⟨4, _⟩ => ⟨S8x4x900, .f32⟩
  | .hbm, ⟨5, _⟩ => ⟨S8x300x1, .i32⟩
  | .hbm, ⟨6, _⟩ => ⟨S8x300x6, .i32⟩
  | .hbm, ⟨7, _⟩ => ⟨S8x300x6, .i32⟩
  | .hbm, ⟨8, _⟩ => ⟨S8x6x300, .i32⟩
  | .hbm, ⟨9, _⟩ => ⟨S8x1800, .i32⟩
  | .hbm, ⟨10, _⟩ => ⟨S8x1800, .i32⟩
  | .local _ .vmem, ⟨0, _⟩ => ⟨S1x900x91, .f32⟩
  | .local _ .vmem, ⟨1, _⟩ => ⟨S1x900x91, .f32⟩
  | .local _ .vmem, ⟨2, _⟩ => ⟨S1x4x900, .f32⟩
  | .local _ .vmem, ⟨3, _⟩ => ⟨S1x4x900, .f32⟩
  | .local _ .vmem, ⟨4, _⟩ => ⟨S1x300x1, .i32⟩
  | .local _ .vmem, ⟨5, _⟩ => ⟨S1x300x1, .i32⟩
  | .local _ .vmem, ⟨6, _⟩ => ⟨S1x300x4, .f32⟩
  | .local _ .vmem, ⟨7, _⟩ => ⟨S1x300x4, .f32⟩
  | .local _ .vmem, ⟨8, _⟩ => ⟨S1x300x6, .i32⟩
  | .local _ .vmem, ⟨9, _⟩ => ⟨S1x300x6, .i32⟩
  | .local _ .vmem, ⟨10, _⟩ => ⟨S1x300x6, .i32⟩
  | .local _ .vmem, ⟨11, _⟩ => ⟨S1x300x6, .i32⟩
  | _, _ => ⟨S8x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x300x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x300x6 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x300x6 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x900x91 : Shape := ⟨3, ![8, 900, 91]⟩
abbrev S8x900x4 : Shape := ⟨3, ![8, 900, 4]⟩
abbrev S8x300 : Shape := ⟨2, ![8, 300]⟩
abbrev S8x300x4 : Shape := ⟨3, ![8, 300, 4]⟩
abbrev S_ : Shape := ⟨0, ![]⟩
abbrev S8x300x1 : Shape := ⟨3, ![8, 300, 1]⟩
abbrev S1 : Shape := ⟨1, ![1]⟩
abbrev S1x1x1 : Shape := ⟨3, ![1, 1, 1]⟩
abbrev S8x900x300 : Shape := ⟨3, ![8, 900, 300]⟩
abbrev S8x900x1x4 : Shape := ⟨4, ![8, 900, 1, 4]⟩
abbrev S8x1x300x4 : Shape := ⟨4, ![8, 1, 300, 4]⟩
abbrev S8x900x300x4 : Shape := ⟨4, ![8, 900, 300, 4]⟩
abbrev S8x900x1 : Shape := ⟨3, ![8, 900, 1]⟩
abbrev S8x900 : Shape := ⟨2, ![8, 900]⟩
abbrev S8x900x1x2 : Shape := ⟨4, ![8, 900, 1, 2]⟩
abbrev S8x1x300x2 : Shape := ⟨4, ![8, 1, 300, 2]⟩
abbrev S8x900x300x2 : Shape := ⟨4, ![8, 900, 300, 2]⟩
abbrev S8x900x300x1 : Shape := ⟨4, ![8, 900, 300, 1]⟩
abbrev S8x900x1x1 : Shape := ⟨4, ![8, 900, 1, 1]⟩
abbrev S8x1x300x1 : Shape := ⟨4, ![8, 1, 300, 1]⟩
abbrev S8x1x300 : Shape := ⟨3, ![8, 1, 300]⟩
abbrev S8x300x900 : Shape := ⟨3, ![8, 300, 900]⟩
abbrev S8x300x6 : Shape := ⟨3, ![8, 300, 6]⟩
abbrev S8x6x300 : Shape := ⟨3, ![8, 6, 300]⟩
abbrev S8x1800 : Shape := ⟨2, ![8, 1800]⟩
abbrev S300 : Shape := ⟨1, ![300]⟩
abbrev S300x6 : Shape := ⟨2, ![300, 6]⟩
abbrev S1800 : Shape := ⟨1, ![1800]⟩

abbrev nBuf : Space → Nat
  | .hbm => 313
  | .vmem => 0
  | .smem => 0
  | _ => 0

abbrev hbmTy0_0 (i : Nat) : BufTy := match i % 128 with
  | 0 => ⟨S8x900x91, .f32⟩
  | 1 => ⟨S8x900x4, .f32⟩
  | 2 => ⟨S8x300, .i32⟩
  | 3 => ⟨S8x300x4, .f32⟩
  | 4 => ⟨S_, .f32⟩
  | 5 => ⟨S8x900x91, .i1⟩
  | 6 => ⟨S_, .f32⟩
  | 7 => ⟨S8x900x91, .f32⟩
  | 8 => ⟨S8x900x91, .f32⟩
  | 9 => ⟨S_, .f32⟩
  | 10 => ⟨S8x900x91, .f32⟩
  | 11 => ⟨S8x900x91, .i1⟩
  | 12 => ⟨S_, .f32⟩
  | 13 => ⟨S8x900x91, .f32⟩
  | 14 => ⟨S8x900x91, .f32⟩
  | 15 => ⟨S_, .f32⟩
  | 16 => ⟨S8x900x91, .f32⟩
  | 17 => ⟨S8x900x91, .i1⟩
  | 18 => ⟨S_, .f32⟩
  | 19 => ⟨S8x900x91, .f32⟩
  | 20 => ⟨S8x900x91, .f32⟩
  | 21 => ⟨S8x900x4, .f32⟩
  | 22 => ⟨S8x900x4, .f32⟩
  | 23 => ⟨S_, .f32⟩
  | 24 => ⟨S8x900x4, .f32⟩
  | 25 => ⟨S8x900x4, .f32⟩
  | 26 => ⟨S_, .f32⟩
  | 27 => ⟨S8x900x4, .f32⟩
  | 28 => ⟨S8x900x4, .f32⟩
  | 29 => ⟨S_, .f32⟩
  | 30 => ⟨S8x900x91, .f32⟩
  | 31 => ⟨S8x900x91, .f32⟩
  | 32 => ⟨S8x900x91, .f32⟩
  | 33 => ⟨S8x900x91, .f32⟩
  | 34 => ⟨S_, .f32⟩
  | 35 => ⟨S8x900x91, .f32⟩
  | 36 => ⟨S8x900x91, .f32⟩
  | 37 => ⟨S_, .f32⟩
  | 38 => ⟨S8x900x91, .f32⟩
  | 39 => ⟨S8x900x91, .f32⟩
  | 40 => ⟨S_, .f32⟩
  | 41 => ⟨S8x900x91, .f32⟩
  | 42 => ⟨S8x900x91, .f32⟩
  | 43 => ⟨S_, .f32⟩
  | 44 => ⟨S8x900x91, .f32⟩
  | 45 => ⟨S8x900x91, .f32⟩
  | 46 => ⟨S_, .f32⟩
  | 47 => ⟨S8x900x91, .f32⟩
  | 48 => ⟨S8x900x91, .f32⟩
  | 49 => ⟨S_, .f32⟩
  | 50 => ⟨S8x900x91, .f32⟩
  | 51 => ⟨S8x900x91, .f32⟩
  | 52 => ⟨S8x900x91, .f32⟩
  | 53 => ⟨S8x900x91, .f32⟩
  | 54 => ⟨S8x900x91, .f32⟩
  | 55 => ⟨S_, .f32⟩
  | 56 => ⟨S8x900x91, .f32⟩
  | 57 => ⟨S8x900x91, .f32⟩
  | 58 => ⟨S_, .f32⟩
  | 59 => ⟨S8x900x91, .f32⟩
  | 60 => ⟨S8x900x91, .f32⟩
  | 61 => ⟨S_, .f32⟩
  | 62 => ⟨S8x900x91, .f32⟩
  | 63 => ⟨S8x900x91, .f32⟩
  | 64 => ⟨S_, .f32⟩
  | 65 => ⟨S8x900x91, .f32⟩
  | 66 => ⟨S8x900x91, .f32⟩
  | 67 => ⟨S8x900x91, .f32⟩
  | 68 => ⟨S8x900x91, .f32⟩
  | 69 => ⟨S8x900x91, .f32⟩
  | 70 => ⟨S_, .i32⟩
  | 71 => ⟨S8x300, .i32⟩
  | 72 => ⟨S8x300, .i1⟩
  | 73 => ⟨S_, .i32⟩
  | 74 => ⟨S8x300, .i32⟩
  | 75 => ⟨S8x300, .i32⟩
  | 76 => ⟨S8x300, .i32⟩
  | 77 => ⟨S8x300x1, .i32⟩
  | 78 => ⟨S1, .i32⟩
  | 79 => ⟨S_, .i32⟩
  | 80 => ⟨S8x300x1, .i32⟩
  | 81 => ⟨S8x300x1, .i1⟩
  | 82 => ⟨S1x1x1, .i32⟩
  | 83 => ⟨S8x300x1, .i32⟩
  | 84 => ⟨S8x300x1, .i1⟩
  | 85 => ⟨S8x300x1, .i1⟩
  | 86 => ⟨S_, .i1⟩
  | 87 => ⟨S8x300, .i1⟩
  | 88 => ⟨S8x900x300, .f32⟩
  | 89 => ⟨S8x900x300, .i1⟩
  | 90 => ⟨S_, .f32⟩
  | 91 => ⟨S8x900x300, .f32⟩
  | 92 => ⟨S8x900x300, .f32⟩
  | 93 => ⟨S_, .i32⟩
  | 94 => ⟨S8x300, .i32⟩
  | 95 => ⟨S8x300, .i1⟩
  | 96 => ⟨S_, .i32⟩
  | 97 => ⟨S8x300, .i32⟩
  | 98 => ⟨S8x300, .i32⟩
  | 99 => ⟨S8x300, .i32⟩
  | 100 => ⟨S8x300x1, .i32⟩
  | 101 => ⟨S1, .i32⟩
  | 102 => ⟨S_, .i32⟩
  | 103 => ⟨S8x300x1, .i32⟩
  | 104 => ⟨S8x300x1, .i1⟩
  | 105 => ⟨S1x1x1, .i32⟩
  | 106 => ⟨S8x300x1, .i32⟩
  | 107 => ⟨S8x300x1, .i1⟩
  | 108 => ⟨S8x300x1, .i1⟩
  | 109 => ⟨S_, .i1⟩
  | 110 => ⟨S8x300, .i1⟩
  | 111 => ⟨S8x900x300, .f32⟩
  | 112 => ⟨S8x900x300, .i1⟩
  | 113 => ⟨S_, .f32⟩
  | 114 => ⟨S8x900x300, .f32⟩
  | 115 => ⟨S8x900x300, .f32⟩
  | 116 => ⟨S8x900x300, .f32⟩
  | 117 => ⟨S_, .f32⟩
  | 118 => ⟨S_, .f32⟩
  | 119 => ⟨S_, .f32⟩
  | 120 => ⟨S8x300x4, .f32⟩
  | 121 => ⟨S8x300x4, .f32⟩
  | 122 => ⟨S_, .f32⟩
  | 123 => ⟨S8x300x4, .f32⟩
  | 124 => ⟨S8x300x4, .f32⟩
  | 125 => ⟨S8x300x1, .f32⟩
  | 126 => ⟨S8x300, .f32⟩
  | 127 => ⟨S8x300x1, .f32⟩
  | _ => ⟨S8x900x91, .f32⟩

abbrev hbmTy0_1 (i : Nat) : BufTy := match i % 128 with
  | 0 => ⟨S8x300, .f32⟩
  | 1 => ⟨S8x300x1, .f32⟩
  | 2 => ⟨S8x300, .f32⟩
  | 3 => ⟨S8x300x1, .f32⟩
  | 4 => ⟨S8x300, .f32⟩
  | 5 => ⟨S8x300, .f32⟩
  | 6 => ⟨S_, .f32⟩
  | 7 => ⟨S8x300, .f32⟩
  | 8 => ⟨S8x300, .f32⟩
  | 9 => ⟨S8x300, .f32⟩
  | 10 => ⟨S_, .f32⟩
  | 11 => ⟨S8x300, .f32⟩
  | 12 => ⟨S8x300, .f32⟩
  | 13 => ⟨S8x300, .f32⟩
  | 14 => ⟨S_, .f32⟩
  | 15 => ⟨S8x300, .f32⟩
  | 16 => ⟨S8x300, .f32⟩
  | 17 => ⟨S8x300, .f32⟩
  | 18 => ⟨S_, .f32⟩
  | 19 => ⟨S8x300, .f32⟩
  | 20 => ⟨S8x300, .f32⟩
  | 21 => ⟨S8x300x1, .f32⟩
  | 22 => ⟨S8x300x1, .f32⟩
  | 23 => ⟨S8x300x1, .f32⟩
  | 24 => ⟨S8x300x1, .f32⟩
  | 25 => ⟨S8x300x4, .f32⟩
  | 26 => ⟨S8x900x1x4, .f32⟩
  | 27 => ⟨S8x1x300x4, .f32⟩
  | 28 => ⟨S8x900x300x4, .f32⟩
  | 29 => ⟨S8x900x300x4, .f32⟩
  | 30 => ⟨S8x900x300x4, .f32⟩
  | 31 => ⟨S8x900x300x4, .f32⟩
  | 32 => ⟨S_, .f32⟩
  | 33 => ⟨S8x900x300, .f32⟩
  | 34 => ⟨S8x900x1, .f32⟩
  | 35 => ⟨S8x900, .f32⟩
  | 36 => ⟨S8x900x1, .f32⟩
  | 37 => ⟨S8x900, .f32⟩
  | 38 => ⟨S8x900x1, .f32⟩
  | 39 => ⟨S8x900, .f32⟩
  | 40 => ⟨S8x900x1, .f32⟩
  | 41 => ⟨S8x900, .f32⟩
  | 42 => ⟨S_, .f32⟩
  | 43 => ⟨S8x900, .f32⟩
  | 44 => ⟨S8x900, .f32⟩
  | 45 => ⟨S_, .f32⟩
  | 46 => ⟨S8x900, .f32⟩
  | 47 => ⟨S8x900, .f32⟩
  | 48 => ⟨S8x900, .f32⟩
  | 49 => ⟨S8x900, .f32⟩
  | 50 => ⟨S8x900, .f32⟩
  | 51 => ⟨S8x900, .f32⟩
  | 52 => ⟨S8x900x1, .f32⟩
  | 53 => ⟨S8x900x1, .f32⟩
  | 54 => ⟨S8x900x1, .f32⟩
  | 55 => ⟨S8x900x1, .f32⟩
  | 56 => ⟨S8x900x4, .f32⟩
  | 57 => ⟨S_, .f32⟩
  | 58 => ⟨S_, .f32⟩
  | 59 => ⟨S_, .f32⟩
  | 60 => ⟨S8x900x4, .f32⟩
  | 61 => ⟨S8x900x4, .f32⟩
  | 62 => ⟨S_, .f32⟩
  | 63 => ⟨S8x900x4, .f32⟩
  | 64 => ⟨S8x900x4, .f32⟩
  | 65 => ⟨S8x900x1x4, .f32⟩
  | 66 => ⟨S8x1x300x4, .f32⟩
  | 67 => ⟨S8x900x1x2, .f32⟩
  | 68 => ⟨S8x1x300x2, .f32⟩
  | 69 => ⟨S8x900x300x2, .f32⟩
  | 70 => ⟨S8x900x300x2, .f32⟩
  | 71 => ⟨S8x900x300x2, .f32⟩
  | 72 => ⟨S8x900x1x2, .f32⟩
  | 73 => ⟨S8x1x300x2, .f32⟩
  | 74 => ⟨S8x900x300x2, .f32⟩
  | 75 => ⟨S8x900x300x2, .f32⟩
  | 76 => ⟨S8x900x300x2, .f32⟩
  | 77 => ⟨S8x900x300x2, .f32⟩
  | 78 => ⟨S_, .f32⟩
  | 79 => ⟨S8x900x300x2, .f32⟩
  | 80 => ⟨S8x900x300x2, .f32⟩
  | 81 => ⟨S8x900x300x1, .f32⟩
  | 82 => ⟨S8x900x300, .f32⟩
  | 83 => ⟨S8x900x300x1, .f32⟩
  | 84 => ⟨S8x900x300, .f32⟩
  | 85 => ⟨S8x900x300, .f32⟩
  | 86 => ⟨S8x900x1x1, .f32⟩
  | 87 => ⟨S8x900x1, .f32⟩
  | 88 => ⟨S8x900x1x1, .f32⟩
  | 89 => ⟨S8x900x1, .f32⟩
  | 90 => ⟨S8x900x1, .f32⟩
  | 91 => ⟨S_, .f32⟩
  | 92 => ⟨S8x900x1, .f32⟩
  | 93 => ⟨S8x900x1, .f32⟩
  | 94 => ⟨S8x900x1x1, .f32⟩
  | 95 => ⟨S8x900x1, .f32⟩
  | 96 => ⟨S8x900x1x1, .f32⟩
  | 97 => ⟨S8x900x1, .f32⟩
  | 98 => ⟨S8x900x1, .f32⟩
  | 99 => ⟨S_, .f32⟩
  | 100 => ⟨S8x900x1, .f32⟩
  | 101 => ⟨S8x900x1, .f32⟩
  | 102 => ⟨S8x900x1, .f32⟩
  | 103 => ⟨S8x1x300x1, .f32⟩
  | 104 => ⟨S8x1x300, .f32⟩
  | 105 => ⟨S8x1x300x1, .f32⟩
  | 106 => ⟨S8x1x300, .f32⟩
  | 107 => ⟨S8x1x300, .f32⟩
  | 108 => ⟨S_, .f32⟩
  | 109 => ⟨S8x1x300, .f32⟩
  | 110 => ⟨S8x1x300, .f32⟩
  | 111 => ⟨S8x1x300x1, .f32⟩
  | 112 => ⟨S8x1x300, .f32⟩
  | 113 => ⟨S8x1x300x1, .f32⟩
  | 114 => ⟨S8x1x300, .f32⟩
  | 115 => ⟨S8x1x300, .f32⟩
  | 116 => ⟨S_, .f32⟩
  | 117 => ⟨S8x1x300, .f32⟩
  | 118 => ⟨S8x1x300, .f32⟩
  | 119 => ⟨S8x1x300, .f32⟩
  | 120 => ⟨S8x900x300, .f32⟩
  | 121 => ⟨S8x900x300, .f32⟩
  | 122 => ⟨S8x900x300, .f32⟩
  | 123 => ⟨S8x900x300, .f32⟩
  | 124 => ⟨S_, .f32⟩
  | 125 => ⟨S8x900x300, .f32⟩
  | 126 => ⟨S8x900x300, .f32⟩
  | 127 => ⟨S8x900x300, .f32⟩
  | _ => ⟨S8x900x91, .f32⟩

abbrev hbmTy0_2 (i : Nat) : BufTy := match i % 128 with
  | 0 => ⟨S8x900x1x2, .f32⟩
  | 1 => ⟨S8x1x300x2, .f32⟩
  | 2 => ⟨S8x900x300x2, .f32⟩
  | 3 => ⟨S8x900x300x2, .f32⟩
  | 4 => ⟨S8x900x300x2, .f32⟩
  | 5 => ⟨S8x900x1x2, .f32⟩
  | 6 => ⟨S8x1x300x2, .f32⟩
  | 7 => ⟨S8x900x300x2, .f32⟩
  | 8 => ⟨S8x900x300x2, .f32⟩
  | 9 => ⟨S8x900x300x2, .f32⟩
  | 10 => ⟨S8x900x300x2, .f32⟩
  | 11 => ⟨S_, .f32⟩
  | 12 => ⟨S8x900x300x2, .f32⟩
  | 13 => ⟨S8x900x300x2, .f32⟩
  | 14 => ⟨S8x900x300x1, .f32⟩
  | 15 => ⟨S8x900x300, .f32⟩
  | 16 => ⟨S8x900x300x1, .f32⟩
  | 17 => ⟨S8x900x300, .f32⟩
  | 18 => ⟨S8x900x300, .f32⟩
  | 19 => ⟨S_, .f32⟩
  | 20 => ⟨S8x900x300, .f32⟩
  | 21 => ⟨S8x900x300, .f32⟩
  | 22 => ⟨S8x900x300, .f32⟩
  | 23 => ⟨S8x900x300, .f32⟩
  | 24 => ⟨S8x900x300, .f32⟩
  | 25 => ⟨S_, .f32⟩
  | 26 => ⟨S_, .f32⟩
  | 27 => ⟨S_, .f32⟩
  | 28 => ⟨S8x900x300, .f32⟩
  | 29 => ⟨S8x900x300, .f32⟩
  | 30 => ⟨S_, .f32⟩
  | 31 => ⟨S8x900x300, .f32⟩
  | 32 => ⟨S8x900x300, .f32⟩
  | 33 => ⟨S_, .f32⟩
  | 34 => ⟨S8x900x300, .f32⟩
  | 35 => ⟨S8x900x300, .f32⟩
  | 36 => ⟨S_, .f32⟩
  | 37 => ⟨S8x900x300, .f32⟩
  | 38 => ⟨S8x900x300, .f32⟩
  | 39 => ⟨S_, .f32⟩
  | 40 => ⟨S8x900x300, .f32⟩
  | 41 => ⟨S8x900x300, .f32⟩
  | 42 => ⟨S8x900x300, .f32⟩
  | 43 => ⟨S_, .f32⟩
  | 44 => ⟨S8x900x300, .f32⟩
  | 45 => ⟨S8x900x300, .f32⟩
  | 46 => ⟨S8x900x300, .f32⟩
  | 47 => ⟨S8x300x900, .f32⟩
  | 48 => ⟨S8x300x900, .f32⟩
  | 49 => ⟨S8x300x6, .f32⟩
  | 50 => ⟨S8x300x6, .i32⟩
  | 51 => ⟨S8x6x300, .i32⟩
  | 52 => ⟨S8x1800, .i32⟩
  | 53 => ⟨S300, .i32⟩
  | 54 => ⟨S300x6, .i32⟩
  | 55 => ⟨S1800, .i32⟩
  | 56 => ⟨S8x1800, .i32⟩
  | _ => ⟨S8x900x91, .f32⟩

abbrev hbmTy (i : Nat) : BufTy := match i / 128 with
  | 0 => hbmTy0_0 i
  | 1 => hbmTy0_1 i
  | 2 => hbmTy0_2 i
  | _ => ⟨S8x900x91, .f32⟩

abbrev bufTy : (tb : Table) → Fin (tcTables nBuf tb) → BufTy
  | .hbm, ⟨i, _⟩ => hbmTy i
  | _, _ => ⟨S8x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_call0_call0_v0 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_call1_v0 : Ref sig .tc := ⟨.hbm, 13, rfl⟩
abbrev main_call0_v5 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_call0_cst_2 : Ref sig .tc := ⟨.hbm, 18, rfl⟩
abbrev main_call0_call2_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_3 : Ref sig .tc := ⟨.hbm, 34, rfl⟩
abbrev main_v11 : Ref sig .tc := ⟨.hbm, 35, rfl⟩
abbrev main_v12 : Ref sig .tc := ⟨.hbm, 36, rfl⟩
abbrev main_cst_4 : Ref sig .tc := ⟨.hbm, 37, rfl⟩
abbrev main_v13 : Ref sig .tc := ⟨.hbm, 38, rfl⟩
abbrev main_v14 : Ref sig .tc := ⟨.hbm, 39, rfl⟩
abbrev main_cst_5 : Ref sig .tc := ⟨.hbm, 40, rfl⟩
abbrev main_v15 : Ref sig .tc := ⟨.hbm, 41, rfl⟩
abbrev main_v16 : Ref sig .tc := ⟨.hbm, 42, rfl⟩
abbrev main_cst_6 : Ref sig .tc := ⟨.hbm, 43, rfl⟩
abbrev main_v17 : Ref sig .tc := ⟨.hbm, 44, rfl⟩
abbrev main_v18 : Ref sig .tc := ⟨.hbm, 45, rfl⟩
abbrev main_cst_7 : Ref sig .tc := ⟨.hbm, 46, rfl⟩
abbrev main_v19 : Ref sig .tc := ⟨.hbm, 47, rfl⟩
abbrev main_v20 : Ref sig .tc := ⟨.hbm, 48, rfl⟩
abbrev main_cst_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_v27 : Ref sig .tc := ⟨.hbm, 57, rfl⟩
abbrev main_cst_10 : Ref sig .tc := ⟨.hbm, 58, rfl⟩
abbrev main_v28 : Ref sig .tc := ⟨.hbm, 59, rfl⟩
abbrev main_v29 : Ref sig .tc := ⟨.hbm, 60, rfl⟩
abbrev main_cst_11 : Ref sig .tc := ⟨.hbm, 61, rfl⟩
abbrev main_v30 : Ref sig .tc := ⟨.hbm, 62, rfl⟩
abbrev main_v31 : Ref sig .tc := ⟨.hbm, 63, rfl⟩
abbrev main_cst_12 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v37 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v38 : Ref sig .tc := ⟨.hbm, 115, rfl⟩
abbrev main_v39 : Ref sig .tc := ⟨.hbm, 116, rfl⟩
abbrev main_cst_13 : Ref sig .tc := ⟨.hbm, 117, rfl⟩
abbrev main_cst_14 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_cst_15 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_cst_16 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_cst_17 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_18 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_19 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_cst_20 : Ref sig .tc := ⟨.hbm, 170, rfl⟩
abbrev main_v81 : Ref sig .tc := ⟨.hbm, 171, rfl⟩
abbrev main_v82 : Ref sig .tc := ⟨.hbm, 172, rfl⟩
abbrev main_cst_21 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_22 : Ref sig .tc := ⟨.hbm, 185, rfl⟩
abbrev main_cst_23 : Ref sig .tc := ⟨.hbm, 186, rfl⟩
abbrev main_call4_v0 : Ref sig .tc := ⟨.hbm, 187, rfl⟩
abbrev main_call4_v1 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_cst_24 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_cst_25 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_cst_26 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_cst_27 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_cst_28 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_cst_29 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_cst_30 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_cst_31 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_cst_32 : Ref sig .tc := ⟨.hbm, 281, rfl⟩
abbrev main_cst_33 : Ref sig .tc := ⟨.hbm, 282, rfl⟩
abbrev main_call5_v0 : Ref sig .tc := ⟨.hbm, 283, rfl⟩
abbrev main_call5_v1 : Ref sig .tc := ⟨.hbm, 284, rfl⟩
abbrev main_call5_v2 : Ref sig .tc := ⟨.hbm, 285, rfl⟩
abbrev main_call5_v3 : Ref sig .tc := ⟨.hbm, 286, rfl⟩
abbrev main_call5_v4 : Ref sig .tc := ⟨.hbm, 287, rfl⟩
abbrev main_v175 : Ref sig .tc := ⟨.hbm, 288, rfl⟩
abbrev main_cst_34 : Ref sig .tc := ⟨.hbm, 289, rfl⟩
abbrev main_v176 : Ref sig .tc := ⟨.hbm, 290, rfl⟩
abbrev main_v177 : Ref sig .tc := ⟨.hbm, 291, rfl⟩
abbrev main_cst_35 : Ref sig .tc := ⟨.hbm, 292, rfl⟩
abbrev main_v178 : Ref sig .tc := ⟨.hbm, 293, rfl⟩
abbrev main_v179 : Ref sig .tc := ⟨.hbm, 294, rfl⟩
abbrev main_cst_36 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_cst_37 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_values : Ref sig .tc := ⟨.hbm, 305, rfl⟩
abbrev main_indices : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩

abbrev nD : Nat := 1
abbrev τ : Topo := Topo.v7x

variable {F : FTy → Type} [FloatOps F]
-- ==== Proof.Select.lean ====
/- Repeated least-entry selection. Each round takes the least entry of a row (the first position on a tie), then
   raises that entry to the top. The rounds list the positions in the order a stable sort of the negated row, greatest
   first, puts them. -/
module

public import Idealize.ShloMosaic.Lib.SortPrefix
public import Idealize.ShloMosaic.Lib.SortNet.Extract
public import Idealize.ShloMosaic.Lib.Pointwise

@[expose] public section

noncomputable section

namespace Cert.Match

open Idealize.ShloMosaic

/-- The first position at which a row is least. -/
def pick (g : Fin 900 → EReal) : Fin 900 :=
  (Finset.univ.filter fun p => ∀ i, g p ≤ g i).min' (by
    obtain ⟨p, hp⟩ := Finite.exists_min g
    exact ⟨p, by simpa using hp⟩)

/-- The picked entry is at most every entry. -/
theorem pick_le (g : Fin 900 → EReal) (i : Fin 900) : g (pick g) ≤ g i := by
  have h := Finset.min'_mem (Finset.univ.filter fun p => ∀ i, g p ≤ g i) (by
    obtain ⟨p, hp⟩ := Finite.exists_min g
    exact ⟨p, by simpa using hp⟩)
  exact (Finset.mem_filter.mp h).2 i

/-- Among the positions holding the least entry, the picked one is the first. -/
theorem pick_first (g : Fin 900 → EReal) (i : Fin 900) (h : g i = g (pick g)) : pick g ≤ i :=
  Finset.min'_le _ _ (Finset.mem_filter.mpr ⟨Finset.mem_univ i, fun k => h ▸ pick_le g k⟩)

/-- The row after `r` rounds: the entries picked so far are raised to the top. -/
def masked (f : Fin 900 → EReal) : ℕ → Fin 900 → EReal
  | 0 => f
  | r + 1 => fun i => if i = pick (masked f r) then ⊤ else masked f r i

/-- The position picked in round `r`. -/
def sel (f : Fin 900 → EReal) (r : ℕ) : Fin 900 := pick (masked f r)

/-- After `r` rounds a position not picked yet holds its own entry. -/
theorem masked_of_not_picked (f : Fin 900 → EReal) (r : ℕ) (i : Fin 900) (h : ∀ s, s < r → sel f s ≠ i) :
    masked f r i = f i := by
  induction r with
  | zero => rfl
  | succ r ih =>
    have h1 : i ≠ pick (masked f r) := fun e => h r (Nat.lt_succ_self r) e.symm
    show (if i = pick (masked f r) then ⊤ else masked f r i) = f i
    rw [if_neg h1]
    exact ih fun s hs => h s (hs.trans (Nat.lt_succ_self r))

/-- After `r` rounds a position picked already holds the top. -/
theorem masked_of_picked (f : Fin 900 → EReal) (r s : ℕ) (hs : s < r) : masked f r (sel f s) = ⊤ := by
  induction r with
  | zero => exact absurd hs (Nat.not_lt_zero s)
  | succ r ih =>
    show (if sel f s = pick (masked f r) then ⊤ else masked f r (sel f s)) = ⊤
    by_cases e : sel f s = pick (masked f r)
    · rw [if_pos e]
    · rw [if_neg e]
      rcases Nat.lt_succ_iff_lt_or_eq.mp hs with h | h
      · exact ih h
      · exact absurd (h ▸ rfl : sel f s = pick (masked f r)) e

/-- Before the rounds exhaust the row, some position has not been picked. -/
theorem exists_not_picked (f : Fin 900 → EReal) (r : ℕ) (hr : r < 900) : ∃ i, ∀ s, s < r → sel f s ≠ i := by
  by_contra hc
  have hsub : (Finset.univ : Finset (Fin 900)) ⊆ (Finset.range r).image (sel f) := by
    intro i _
    by_contra hi
    refine hc ⟨i, fun s hs e => hi ?_⟩
    exact Finset.mem_image.mpr ⟨s, Finset.mem_range.mpr hs, e⟩
  have h1 := Finset.card_le_card hsub
  have h2 := (Finset.card_image_le (s := Finset.range r) (f := sel f))
  rw [Finset.card_univ, Fintype.card_fin] at h1
  rw [Finset.card_range] at h2
  omega

variable {f : Fin 900 → EReal} (hf : ∀ i, f i ≠ ⊤)
include hf

/-- A row without a top entry: each round picks a position not picked before. -/
theorem sel_fresh (r : ℕ) (hr : r < 900) (s : ℕ) (hs : s < r) : sel f s ≠ sel f r := by
  intro e
  obtain ⟨i, hi⟩ := exists_not_picked f r hr
  have h1 : masked f r (sel f r) ≤ masked f r i := pick_le _ i
  rw [← e, masked_of_picked f r s hs, masked_of_not_picked f r i hi] at h1
  exact hf i (top_le_iff.mp h1)

/-- The entry picked in round `r` is at most every entry not picked before it. -/
theorem sel_le (r : ℕ) (hr : r < 900) (i : Fin 900) (hi : ∀ s, s < r → sel f s ≠ i) : f (sel f r) ≤ f i := by
  have h1 : masked f r (sel f r) ≤ masked f r i := pick_le _ i
  rwa [masked_of_not_picked f r i hi, masked_of_not_picked f r _ (sel_fresh hf r hr)] at h1

/-- Among equal entries not picked before, the round picks the first. -/
theorem sel_first (r : ℕ) (hr : r < 900) (i : Fin 900) (hi : ∀ s, s < r → sel f s ≠ i) (e : f i = f (sel f r)) :
    sel f r ≤ i := by
  refine pick_first _ i ?_
  rw [masked_of_not_picked f r i hi]
  exact e.trans (masked_of_not_picked f r _ (sel_fresh hf r hr)).symm

omit hf in
/-- Position order completes the order by entry: less entry first, on equal entries the lesser position. -/
theorem totalBefore (f : Fin 900 → EReal) :
    StrictTotalBefore fun k k' : Fin 900 => decide (f k < f k') || (decide (f k = f k') && decide (k < k')) :=
  StrictTotalBefore.of_key_then_position (fun a b : EReal => decide (a < b)) f (fun a => by simp)
    (fun a b c h1 h2 => by
      simp only [decide_eq_true_eq] at h1 h2 ⊢; exact h1.trans h2)
    (fun a b => by
      simp only [decide_eq_true_eq]; exact lt_trichotomy a b)

/-- The rounds are the first positions of the sort by entry, then position. -/
theorem sortedFrom_total (k : ℕ) (hk : k ≤ 900) (r : Fin k) :
    sortedFrom (fun k k' : Fin 900 => decide (f k < f k') || (decide (f k = f k') && decide (k < k'))) (r.castLE hk)
      = sel f r := by
  have hlt : ∀ j : Fin k, j.val < 900 := fun j => lt_of_lt_of_le j.isLt hk
  refine (totalBefore f).sortedFrom_eq_of_prefix hk (fun r => sel f r.val) ?_ ?_ ?_ r
  · intro i j e
    rcases Nat.lt_trichotomy i.val j.val with h | h | h
    · exact absurd e (sel_fresh hf j.val (hlt j) i.val h)
    · exact Fin.ext h
    · exact absurd e.symm (sel_fresh hf i.val (hlt i) j.val h)
  · intro i j hij
    have hn : ∀ s, s < i.val → sel f s ≠ sel f j.val := fun s hs => sel_fresh hf j.val (hlt j) s (hs.trans hij)
    have h1 := sel_le hf i.val (hlt i) _ hn
    have h2 := sel_first hf i.val (hlt i) _ hn
    simp only [Bool.or_eq_false_iff, Bool.and_eq_false_iff, decide_eq_false_iff_not]
    exact ⟨not_lt.mpr h1, (em _).symm.imp_right fun e => not_lt.mpr (h2 e)⟩
  · intro i p hp
    have hn : ∀ s, s < i.val → sel f s ≠ p := fun s hs => hp ⟨s, hs.trans i.isLt⟩
    have h1 := sel_le hf i.val (hlt i) _ hn
    have h2 := sel_first hf i.val (hlt i) _ hn
    simp only [Bool.or_eq_false_iff, Bool.and_eq_false_iff, decide_eq_false_iff_not]
    exact ⟨not_lt.mpr h1, (em _).symm.imp_right fun e => not_lt.mpr (h2 e)⟩

omit hf in
/-- A stable sort by entry alone is the sort by entry, then position. -/
theorem stableSort_entry (f : Fin 900 → EReal) (l : List (Fin 900)) (hl : l.Pairwise (· < ·)) :
    stableSort (fun k k' : Fin 900 => decide (f k < f k')) l
      = stableSort (fun k k' : Fin 900 => decide (f k < f k') || (decide (f k = f k') && decide (k < k'))) l := by
  induction l with
  | nil => rfl
  | cons a l ih =>
    have h := List.pairwise_cons.mp hl
    show insertBefore _ a (stableSort _ l) = insertBefore _ a (stableSort _ l)
    rw [ih h.2]
    refine insertBefore_congr _ _ a _ fun b hb => ?_
    have hab : a < b := h.1 b ((perm_stableSort _ l).mem_iff.mp hb)
    simp [not_lt.mpr hab.le]

omit hf in
/-- Sorts that list the positions alike send each place to the same source. -/
theorem sortedFrom_of_positions {n : ℕ} (A B : Fin n → Fin n → Bool) (h : sortPositions n A = sortPositions n B) :
    sortedFrom A = sortedFrom B := by
  funext k
  unfold sortedFrom
  rw [List.get_of_eq h]
  rfl

/-- The rounds are the first positions of the stable sort of the negated row, greatest first. -/
theorem sortedFrom_neg (k : ℕ) (hk : k ≤ 900) (r : Fin k) :
    sortedFrom (fun k k' : Fin 900 => Ideal.cmp .ogt (-(f k)) (-(f k')) == 1#1) (r.castLE hk) = sel f r := by
  have e : (fun k k' : Fin 900 => Ideal.cmp .ogt (-(f k)) (-(f k')) == 1#1)
      = fun k k' : Fin 900 => decide (f k < f k') := by
    funext a b
    by_cases h : f a < f b
    · simp [Ideal.cmp, h]
    · simp [Ideal.cmp, h]
  rw [e, ← sortedFrom_total hf k hk r]
  exact congrFun (sortedFrom_of_positions _ _ (stableSort_entry f _ (List.pairwise_lt_finRange 900))) _

omit hf in
/-- The row's minimum from the top is the picked entry. -/
theorem fold_min (g : Fin 900 → EReal) : (Finset.univ.fold min (⊤ : EReal) g) = g (pick g) := by
  refine le_antisymm ?_ ?_
  · exact ((Finset.fold_min_le (s := Finset.univ) (b := (⊤ : EReal)) (f := g) (g (pick g))).mpr
      (Or.inr ⟨pick g, Finset.mem_univ _, le_refl _⟩))
  · exact (Finset.le_fold_min (s := Finset.univ) (b := (⊤ : EReal)) (f := g) (g (pick g))).mpr
      ⟨le_top, fun i _ => pick_le g i⟩

omit hf in
/-- A position as a signed word. -/
theorem toInt_position (i : Fin 900) : (BitVec.ofNat 32 i.val).toInt = (i.val : ℤ) := by
  have := i.isLt
  rw [BitVec.toInt_eq_toNat_cond, BitVec.toNat_ofNat]
  rw [Nat.mod_eq_of_lt (by omega), if_pos (by omega)]

omit hf in
/-- The least of the positions holding the row's minimum, every other position replaced by 900, is the pick. -/
theorem fold_position (g : Fin 900 → EReal) :
    (Finset.univ.fold IntOp.minsi 2147483647#32 fun k : Fin 900 =>
      if g k = g (pick g) then BitVec.ofNat 32 k.val else 900#32) = BitVec.ofNat 32 (pick g).val := by
  set w : Fin 900 → BitVec 32 := fun k => if g k = g (pick g) then BitVec.ofNat 32 k.val else 900#32 with hw
  have hrel : ∀ c : BitVec 32, c.toInt ≤ (Finset.univ.fold IntOp.minsi 2147483647#32 w).toInt ↔
      c.toInt ≤ (2147483647#32 : BitVec 32).toInt ∧ ∀ k ∈ (Finset.univ : Finset (Fin 900)), c.toInt ≤ (w k).toInt := by
    intro c
    exact Finset.fold_op_rel_iff_and (op := IntOp.minsi) (r := fun x y : BitVec 32 => x.toInt ≤ y.toInt)
      (fun {x y z} => by rw [SortNet.toInt_minsi]; exact le_min_iff)
  refine BitVec.eq_of_toInt_eq (le_antisymm ?_ ?_)
  · have h := ((hrel _).mp (le_refl _)).2 (pick g) (Finset.mem_univ _)
    rwa [show w (pick g) = BitVec.ofNat 32 (pick g).val from if_pos rfl] at h
  · refine (hrel _).mpr ⟨?_, fun k _ => ?_⟩
    · rw [toInt_position]
      have h900 := (pick g).isLt
      have : (2147483647#32 : BitVec 32).toInt = 2147483647 := by decide
      rw [this]; omega
    · rw [toInt_position, hw]
      by_cases e : g k = g (pick g)
      · simp only [if_pos e, toInt_position]
        exact_mod_cast pick_first g k e
      · simp only [if_neg e]
        have : (900#32 : BitVec 32).toInt = 900 := by decide
        have h900 := (pick g).isLt
        rw [this]; omega

end Cert.Match

end
-- ==== Proof.Cost.lean ====
/- The matching cost of one query and one target, as numbers: the class term, the box distance and the overlap term.
   Both programs compute it. The facts that every part is finite, and that the square is a power with exponent two,
   are here. -/
module

public import Idealize.ShloMosaic.Lib.Pointwise
public import Idealize.ShloMosaic.Lib.IdealHost
public import Idealize.ShloMosaic.Lib.Pipeline.ValueKit

@[expose] public section

noncomputable section

namespace Cert.Match

open Idealize.ShloMosaic

/-- A logit with the two infinities brought to the greatest and the least finite number. -/
def tame (x : EReal) : EReal :=
  if (if x = Ideal.ofBits .f32 0x7F800000#32 then Ideal.ofBits .f32 0x7F7FFFFF#32 else x) = Ideal.ofBits .f32 0xFF800000#32
  then Ideal.ofBits .f32 0xFF7FFFFF#32
  else if x = Ideal.ofBits .f32 0x7F800000#32 then Ideal.ofBits .f32 0x7F7FFFFF#32 else x

/-- The class probability of a logit. -/
def prob (x : EReal) : EReal := Ideal.logistic (tame x)

/-- The class term of a probability: the positive part less the negative part. -/
def classGap (p : EReal) : EReal :=
  Ideal.ofBits .f32 0x3E800000#32 * ((1 - p) * (1 - p)) * -Ideal.log (p + Ideal.ofBits .f32 0x322BCC77#32)
    - Ideal.ofBits .f32 0x3F400000#32 * (p * p) * -Ideal.log (1 - p + Ideal.ofBits .f32 0x322BCC77#32)

/-- A number brought between zero and one. -/
def unit01 (x : EReal) : EReal := min 1 (max 0 x)

/-- A target's corners as a centre, a width and a height. -/
def centred (t : Fin 4 → EReal) (k : Fin 4) : EReal :=
  if (k : ℕ) < 1 then (t 0 + t 2) * Ideal.ofBits .f32 0x3F000000#32
  else if (k : ℕ) - 1 < 1 then (t 1 + t 3) * Ideal.ofBits .f32 0x3F000000#32
  else if (k : ℕ) - 1 - 1 < 1 then max (t 2 - t 0) (Ideal.ofBits .f32 0x3727C5AC#32)
  else max (t 3 - t 1) (Ideal.ofBits .f32 0x3727C5AC#32)

/-- The distance of two boxes: the sum of the four absolute differences. -/
def boxGap (b t : Fin 4 → EReal) : EReal :=
  ∑ k : Fin 4, max (b k - centred t k) (-(b k - centred t k))

/-- A predicted box (centre, width, height) as its four corners, each between zero and one. -/
def corners (b : Fin 4 → EReal) : Fin 4 → EReal :=
  ![unit01 (b 0 - Ideal.ofBits .f32 0x3F000000#32 * b 2), unit01 (b 1 - Ideal.ofBits .f32 0x3F000000#32 * b 3),
    unit01 (b 0 + Ideal.ofBits .f32 0x3F000000#32 * b 2), unit01 (b 1 + Ideal.ofBits .f32 0x3F000000#32 * b 3)]

/-- The area two boxes share. -/
def shared (c t : Fin 4 → EReal) : EReal :=
  max (min (c 2) (t 2) - max (c 0) (t 0)) 0 * max (min (c 3) (t 3) - max (c 1) (t 1)) 0

/-- The area two boxes cover together. -/
def covered (c t : Fin 4 → EReal) : EReal :=
  max (max (c 2 - c 0) 0 * max (c 3 - c 1) 0 + max (t 2 - t 0) 0 * max (t 3 - t 1) 0 - shared c t)
    (Ideal.ofBits .f32 0x358637BD#32)

/-- The area of the least box round both. -/
def around (c t : Fin 4 → EReal) : EReal :=
  max (max (max (c 2) (t 2) - min (c 0) (t 0)) 0 * max (max (c 3) (t 3) - min (c 1) (t 1)) 0)
    (Ideal.ofBits .f32 0x358637BD#32)

/-- The generalized overlap of two boxes. -/
def overlap (c t : Fin 4 → EReal) : EReal :=
  Ideal.div (shared c t) (covered c t) - Ideal.div (around c t - covered c t) (around c t)

/-- The cost of a query (class term `g`, box `b`) for a target (corners `t`). -/
def cost (g : EReal) (b t : Fin 4 → EReal) : EReal :=
  g + Ideal.ofBits .f32 0x40A00000#32 * boxGap b t
    + Ideal.ofBits .f32 0x40000000#32 * (1 - min 1 (max (Ideal.ofBits .f32 0xBF800000#32) (overlap (corners b) t)))

/-! ### The constants -/

/-- The pattern of positive infinity. -/
theorem word_top : Ideal.ofBits .f32 0x7F800000#32 = ⊤ := by
  simp [Ideal.ofBits, Ideal.ieee]

/-- The pattern of negative infinity. -/
theorem word_bot : Ideal.ofBits .f32 0xFF800000#32 = ⊥ := by
  simp [Ideal.ofBits, Ideal.ieee]

/-- A number is real: neither infinity. -/
def IsReal (x : EReal) : Prop := ∃ r : ℝ, x = r

/-- The pattern of two. -/
theorem word_two : Ideal.ofBits .f32 0x40000000#32 = ((2 : ℝ) : EReal) := by
  simp [Ideal.ofBits, Ideal.ieee, -EReal.coe_mul]; norm_num

/-- A pattern whose exponent field is not all ones is a real number. -/
theorem word_real (b : BitVec 32) (h : (b.extractLsb' 23 8).toNat ≠ 2 ^ 8 - 1) : IsReal (Ideal.ofBits .f32 b) := by
  show IsReal (Ideal.ieee 8 23 b)
  unfold Ideal.ieee
  rw [if_neg h]
  split
  · exact ⟨_, rfl⟩
  · exact ⟨_, rfl⟩

/-- The small addend under the logarithm is a positive real. -/
theorem word_small : ∃ r : ℝ, 0 < r ∧ Ideal.ofBits .f32 0x322BCC77#32 = (r : EReal) := by
  refine ⟨11258999 * (2 : ℝ) ^ (-50 : ℤ), by positivity, ?_⟩
  simp [Ideal.ofBits, Ideal.ieee, -EReal.coe_mul]
  try norm_num

/-! ### Real numbers stay real -/

/-- A sum of reals is real. -/
theorem IsReal.add {x y : EReal} : IsReal x → IsReal y → IsReal (x + y) := by
  rintro ⟨a, rfl⟩ ⟨b, rfl⟩; exact ⟨a + b, by norm_cast⟩
/-- A difference of reals is real. -/
theorem IsReal.sub {x y : EReal} : IsReal x → IsReal y → IsReal (x - y) := by
  rintro ⟨a, rfl⟩ ⟨b, rfl⟩; exact ⟨a - b, by norm_cast⟩
/-- A product of reals is real. -/
theorem IsReal.mul {x y : EReal} : IsReal x → IsReal y → IsReal (x * y) := by
  rintro ⟨a, rfl⟩ ⟨b, rfl⟩; exact ⟨a * b, by norm_cast⟩
/-- A negated real is real. -/
theorem IsReal.neg {x : EReal} : IsReal x → IsReal (-x) := by
  rintro ⟨a, rfl⟩; exact ⟨-a, by norm_cast⟩
/-- The greater of two reals is real. -/
theorem IsReal.max {x y : EReal} (hx : IsReal x) (hy : IsReal y) : IsReal (max x y) := by
  rcases max_choice x y with h | h <;> rw [h] <;> assumption
/-- One is real. -/
theorem IsReal.one : IsReal 1 := ⟨1, by norm_cast⟩

/-- Between two reals everything is real. -/
theorem real_between {a x : EReal} (ha : IsReal a) : IsReal (min 1 (Max.max a x)) := by
  obtain ⟨r, rfl⟩ := ha
  generalize hz : min 1 (Max.max (r : EReal) x) = z
  have h1 : z ≤ 1 := hz ▸ min_le_left _ _
  have h2 : min 1 (r : EReal) ≤ z := hz ▸ min_le_min le_rfl (le_max_left _ _)
  induction z with
  | bot =>
    exfalso
    rcases min_choice (1 : EReal) (r : EReal) with h | h <;> rw [h] at h2
    · exact absurd (le_bot_iff.mp h2) (EReal.coe_ne_bot 1)
    · exact absurd (le_bot_iff.mp h2) (EReal.coe_ne_bot r)
  | top => exact absurd (top_le_iff.mp h1) (EReal.coe_ne_top 1)
  | coe s => exact ⟨s, rfl⟩

/-- A sigmoid is a real between zero and one. -/
theorem logistic_real (x : EReal) : ∃ r : ℝ, 0 ≤ r ∧ r ≤ 1 ∧ Ideal.logistic x = r := by
  unfold Ideal.logistic
  induction x with
  | bot =>
    refine ⟨0, le_rfl, zero_le_one, ?_⟩
    have h : (1 : EReal) + Ideal.exp (-⊥) = ⊤ := by
      rw [EReal.neg_bot]; exact EReal.coe_add_top 1
    rw [h, Ideal.div, if_neg (by simp), EReal.inv_top, mul_zero, EReal.coe_zero]
  | top =>
    refine ⟨1, zero_le_one, le_rfl, ?_⟩
    have h : (1 : EReal) + Ideal.exp (-⊤) = 1 := by
      rw [EReal.neg_top]; exact add_zero _
    rw [h, Ideal.div, if_neg one_ne_zero, one_mul, ← EReal.coe_one, ← EReal.coe_inv, inv_one]
  | coe s =>
    have hpos : 0 < 1 + Real.exp (-s) := by positivity
    refine ⟨(1 + Real.exp (-s))⁻¹, by positivity, inv_le_one_of_one_le₀ (by linarith [Real.exp_pos (-s)]), ?_⟩
    have h : (1 : EReal) + Ideal.exp (-(s : EReal)) = ((1 + Real.exp (-s) : ℝ) : EReal) := by
      rw [← EReal.coe_neg]; exact (EReal.coe_add 1 (Real.exp (-s))).symm
    rw [h, Ideal.div, if_neg (by exact_mod_cast hpos.ne'), one_mul, ← EReal.coe_inv]

/-- The logarithm of a positive real is real. -/
theorem log_real {r : ℝ} (h : 0 < r) : IsReal (Ideal.log (r : EReal)) :=
  ⟨Real.log r, by
    show (if r ≤ 0 then ⊥ else (Real.log r : EReal)) = _
    rw [if_neg (not_le.mpr h)]⟩

/-- The square is the power with exponent two. -/
theorem pow_two_eq {x : EReal} (hx : IsReal x) : Ideal.pow x (Ideal.ofBits .f32 0x40000000#32) = x * x := by
  obtain ⟨r, rfl⟩ := hx
  rw [word_two]
  show ((Real.rpow r 2 : ℝ) : EReal) = _
  rw [← EReal.coe_mul, show Real.rpow r 2 = r ^ (2 : ℝ) from rfl, Real.rpow_two, sq]

/-- The class term of a probability is real. -/
theorem classGap_real (x : EReal) : IsReal (classGap (Ideal.logistic x)) := by
  obtain ⟨p, h0, h1, hp⟩ := logistic_real x
  obtain ⟨e, he, hw⟩ := word_small
  have hp' : IsReal (Ideal.logistic x) := ⟨p, hp⟩
  have l1 : IsReal (Ideal.log (Ideal.logistic x + Ideal.ofBits .f32 0x322BCC77#32)) := by
    rw [hp, hw, ← EReal.coe_add]; exact log_real (by linarith)
  have l2 : IsReal (Ideal.log (1 - Ideal.logistic x + Ideal.ofBits .f32 0x322BCC77#32)) := by
    rw [hp, hw, ← EReal.coe_one, ← EReal.coe_sub, ← EReal.coe_add]; exact log_real (by linarith)
  have hq : IsReal (1 - Ideal.logistic x) := IsReal.one.sub hp'
  exact (((word_real 0x3E800000#32 (by decide)).mul (hq.mul hq)).mul l1.neg).sub (((word_real 0x3F400000#32 (by decide)).mul (hp'.mul hp')).mul l2.neg)

/-- The distance of a real box from real corners is real. -/
theorem boxGap_real {b t : Fin 4 → EReal} (hb : ∀ k, IsReal (b k)) (ht : ∀ k, IsReal (t k)) : IsReal (boxGap b t) := by
  have hc : ∀ k, IsReal (centred t k) := fun k => by
    unfold centred
    split
    · exact ((ht 0).add (ht 2)).mul (word_real 0x3F000000#32 (by decide))
    split
    · exact ((ht 1).add (ht 3)).mul (word_real 0x3F000000#32 (by decide))
    split
    · exact ((ht 2).sub (ht 0)).max (word_real 0x3727C5AC#32 (by decide))
    · exact ((ht 3).sub (ht 1)).max (word_real 0x3727C5AC#32 (by decide))
  have hk : ∀ k, IsReal (max (b k - centred t k) (-(b k - centred t k))) := fun k =>
    ((hb k).sub (hc k)).max ((hb k).sub (hc k)).neg
  rw [boxGap, Fin.sum_univ_four]
  exact (((hk 0).add (hk 1)).add (hk 2)).add (hk 3)

/-- The cost of a real query for real corners is real, whatever the overlap. -/
theorem cost_real {g : EReal} {b t : Fin 4 → EReal} (hg : IsReal g) (hb : ∀ k, IsReal (b k)) (ht : ∀ k, IsReal (t k)) :
    IsReal (cost g b t) :=
  (hg.add ((word_real 0x40A00000#32 (by decide)).mul (boxGap_real hb ht))).add
    (IsReal.mul ⟨2, word_two⟩ (IsReal.one.sub (real_between (word_real 0xBF800000#32 (by decide)))))

/-- A real number is not positive infinity. -/
theorem IsReal.ne_top {x : EReal} : IsReal x → x ≠ ⊤ := by
  rintro ⟨r, rfl⟩; exact EReal.coe_ne_top r

/-- The cost of the logit `x`, the raw box `b` and the raw corners `t`. -/
def costOf (x : EReal) (b t : Fin 4 → EReal) : EReal :=
  cost (classGap (prob x)) (fun k => Ideal.logistic (b k)) (fun k => unit01 (t k))

/-- It is never positive infinity. -/
theorem costOf_ne_top (x : EReal) (b t : Fin 4 → EReal) : costOf x b t ≠ ⊤ :=
  (cost_real (classGap_real _) (fun k => by obtain ⟨r, _, _, h⟩ := logistic_real (b k); exact ⟨r, h⟩)
    fun k => real_between ⟨0, rfl⟩).ne_top

/-- The cost of query `q` for target `t` in batch `b`, from the arrays of logits, raw boxes and raw corners and the
    targets' labels. -/
def matchCost (A0 : Fin 8 → Fin 900 → Fin 91 → EReal) (A1 : Fin 8 → Fin 900 → Fin 4 → EReal)
    (A3 : Fin 8 → Fin 300 → Fin 4 → EReal) (lab : Fin 8 → Fin 300 → Fin 91) (b : Fin 8) (t : Fin 300) (q : Fin 900) : EReal :=
  costOf (A0 b q (lab b t)) (A1 b q) (A3 b t)

end Cert.Match

end
-- ==== Proof.Rounds.lean ====
/- The kernel's six rounds at an index. A round takes the position of the least entry of each row, then raises that
   entry to the top; the lemmas say so of the kernel's own terms. -/
module

public import proofs.«01_k».proof.Proof.Gen.KernelIdeal.Frame
public import proofs.«01_k».proof.Proof.Select
public import proofs.«01_k».proof.Proof.Cost
public import Idealize.ShloMosaic.Lib.WordCmp

@[expose] public section

set_option maxRecDepth 16384

noncomputable section

namespace Cert.Match

open Idealize.ShloMosaic Idealize.ShloMosaic.TcCoe Idealize.SL.Sem
open Cert.KernelIdeal Cert.KernelIdeal.Gen

/-- The least position at which a row equals its least entry, as the kernel finds it. -/
theorem argmin_row (g : Fin 900 → EReal) :
    (Finset.univ.fold IntOp.minsi 2147483647#32 fun k : Fin 900 =>
      if g k = Finset.univ.fold min (Ideal.ofBits .f32 0x7F800000#32) g then BitVec.ofNat 32 k.val else 900#32)
      = BitVec.ofNat 32 (pick g).val := by
  rw [word_top, fold_min]
  exact fold_position g

/-- Raising the entry at the picked position, as the kernel does it by comparing positions. -/
theorem raise_entry (g : Fin 900 → EReal) (p q : Fin 900) :
    Scalar.select (IntOp.cmpi .eq (BitVec.ofNat 32 q.val) (BitVec.ofNat 32 p.val)) (Ideal.ofBits .f32 0x7F800000#32) (g q)
      = if q = p then ⊤ else g q := by
  have hq := q.isLt
  have hp := p.isLt
  rw [word_top]
  by_cases h : q = p
  · subst h
    simp [Scalar.select, IntOp.cmpi]
  · have hv : q.val ≠ p.val := fun e => h (Fin.ext e)
    have hw : BitVec.ofNat 32 q.val ≠ BitVec.ofNat 32 p.val := by
      intro e
      have := congrArg BitVec.toNat e
      rw [BitVec.toNat_ofNat, BitVec.toNat_ofNat, Nat.mod_eq_of_lt (by omega), Nat.mod_eq_of_lt (by omega)] at this
      exact hv this
    rw [if_neg h]
    simp [Scalar.select, IntOp.cmpi, beq_eq_false_iff_ne.mpr hw]

/-! ### The first two rounds, on the cost itself -/

section
variable (v46 v94 v161 v162 v183 : FVec Ideal S300x900 .f32)

/-- The row of costs of a target. -/
def row35 (t : Fin 300) (q : Fin 900) : EReal := k0_pay35 v46 v94 v161 v162 v183 (ix2 t q)

/-- The pick of the first round, as a column. -/
theorem pay36_at (t : Fin 300) :
    k0_pay36 v46 v94 v161 v162 v183 (ix2 t 0) = BitVec.ofNat 32 (sel (row35 v46 v94 v161 v162 v183 t) 0).val := by
  unfold k0_pay36
  pointwise
  exact argmin_row (row35 v46 v94 v161 v162 v183 t)

/-- The pick of the first round, as it is stored. -/
theorem pay37_at (t : Fin 300) :
    k0_pay37 v46 v94 v161 v162 v183 (ix3 0 t 0) = BitVec.ofNat 32 (sel (row35 v46 v94 v161 v162 v183 t) 0).val := by
  unfold k0_pay37
  pointwise
  exact pay36_at v46 v94 v161 v162 v183 t

/-- The costs after the first round. -/
theorem pay38_at (t : Fin 300) (q : Fin 900) :
    k0_pay38 v46 v94 v161 v162 v183 (ix2 t q) = masked (row35 v46 v94 v161 v162 v183 t) 1 q := by
  unfold k0_pay38
  pointwise
  rw [pay36_at]
  exact raise_entry (row35 v46 v94 v161 v162 v183 t) _ q

/-- The pick of the second round. -/
theorem pay39_at (t : Fin 300) :
    k0_pay39 v46 v94 v161 v162 v183 (ix2 t 0) = BitVec.ofNat 32 (sel (row35 v46 v94 v161 v162 v183 t) 1).val := by
  unfold k0_pay39
  pointwise
  simp only [pay38_at]
  exact argmin_row (masked (row35 v46 v94 v161 v162 v183 t) 1)
end

/-! ### The later rounds, on what the round before left -/

section
variable (v201 : IVec S300x900 32) (v216 : FVec Ideal S300x900 .f32) (v224 : IVec S300x1 32) (f : Fin 300 → Fin 900 → EReal)
  (h201 : ∀ t q, v201 (ix2 t q) = BitVec.ofNat 32 q.val) (h216 : ∀ t q, v216 (ix2 t q) = masked (f t) 1 q)
  (h224 : ∀ t, v224 (ix2 t 0) = BitVec.ofNat 32 (sel (f t) 1).val)
include h201 h216 h224

/-- The costs after the second round. -/
theorem pay41_at (t : Fin 300) (q : Fin 900) : k0_pay41 v201 v216 v224 (ix2 t q) = masked (f t) 2 q := by
  unfold k0_pay41
  pointwise
  rw [h201, h216, h224]
  exact raise_entry (masked (f t) 1) _ q

/-- The pick of the third round. -/
theorem pay42_at (t : Fin 300) : k0_pay42 v201 v216 v224 (ix2 t 0) = BitVec.ofNat 32 (sel (f t) 2).val := by
  unfold k0_pay42
  pointwise
  simp only [pay41_at v201 v216 v224 f h201 h216 h224, h201]
  exact argmin_row (masked (f t) 2)

/-- The pick of the third round, as it is stored. -/
theorem pay43_at (t : Fin 300) : k0_pay43 v201 v216 v224 (ix3 0 t 0) = BitVec.ofNat 32 (sel (f t) 2).val := by
  unfold k0_pay43
  pointwise
  exact pay42_at v201 v216 v224 f h201 h216 h224 t

/-- The costs after the third round. -/
theorem pay44_at (t : Fin 300) (q : Fin 900) : k0_pay44 v201 v216 v224 (ix2 t q) = masked (f t) 3 q := by
  unfold k0_pay44
  pointwise
  rw [h201, pay41_at v201 v216 v224 f h201 h216 h224, pay42_at v201 v216 v224 f h201 h216 h224]
  exact raise_entry (masked (f t) 2) _ q

/-- The pick of the fourth round. -/
theorem pay45_at (t : Fin 300) : k0_pay45 v201 v216 v224 (ix2 t 0) = BitVec.ofNat 32 (sel (f t) 3).val := by
  unfold k0_pay45
  pointwise
  simp only [pay44_at v201 v216 v224 f h201 h216 h224, h201]
  exact argmin_row (masked (f t) 3)

/-- The pick of the fourth round, as it is stored. -/
theorem pay46_at (t : Fin 300) : k0_pay46 v201 v216 v224 (ix3 0 t 0) = BitVec.ofNat 32 (sel (f t) 3).val := by
  unfold k0_pay46
  pointwise
  exact pay45_at v201 v216 v224 f h201 h216 h224 t

/-- The costs after the fourth round. -/
theorem pay47_at (t : Fin 300) (q : Fin 900) : k0_pay47 v201 v216 v224 (ix2 t q) = masked (f t) 4 q := by
  unfold k0_pay47
  pointwise
  rw [h201, pay44_at v201 v216 v224 f h201 h216 h224, pay45_at v201 v216 v224 f h201 h216 h224]
  exact raise_entry (masked (f t) 3) _ q

/-- The least cost left after the fourth round. -/
theorem pay48_at (t : Fin 300) (q : Fin 900) :
    k0_pay48 v201 v216 v224 (ix2 t q) = Finset.univ.fold min (Ideal.ofBits .f32 0x7F800000#32) (masked (f t) 4) := by
  unfold k0_pay48
  pointwise
  simp only [pay47_at v201 v216 v224 f h201 h216 h224]
end

/-- The second round's store. -/
theorem pay40_at (v224 : IVec S300x1 32) (t : Fin 300) : k0_pay40 v224 (ix3 0 t 0) = v224 (ix2 t 0) := by
  unfold k0_pay40
  pointwise

/-! ### The last two rounds -/

section
variable (v201 : IVec S300x900 32) (v261 v264 : FVec Ideal S300x900 .f32) (f : Fin 300 → Fin 900 → EReal)
  (h201 : ∀ t q, v201 (ix2 t q) = BitVec.ofNat 32 q.val) (h261 : ∀ t q, v261 (ix2 t q) = masked (f t) 4 q)
  (h264 : ∀ t q, v264 (ix2 t q) = Finset.univ.fold min (Ideal.ofBits .f32 0x7F800000#32) (masked (f t) 4))
include h201 h261 h264

/-- The pick of the fifth round. -/
theorem pay1_at (t : Fin 300) : k0_pay1 v201 v261 v264 (ix2 t 0) = BitVec.ofNat 32 (sel (f t) 4).val := by
  unfold k0_pay1
  pointwise
  simp only [h201, h261, h264]
  exact argmin_row (masked (f t) 4)

/-- The pick of the fifth round, as it is stored. -/
theorem pay2_at (t : Fin 300) : k0_pay2 v201 v261 v264 (ix3 0 t 0) = BitVec.ofNat 32 (sel (f t) 4).val := by
  unfold k0_pay2
  pointwise
  exact pay1_at v201 v261 v264 f h201 h261 h264 t

/-- The pick of the sixth round, as it is stored. -/
theorem pay3_at (t : Fin 300) : k0_pay3 v201 v261 v264 (ix3 0 t 0) = BitVec.ofNat 32 (sel (f t) 5).val := by
  have hm : ∀ q : Fin 900, Scalar.select (IntOp.cmpi .eq (v201 (ix2 t q)) (k0_pay1 v201 v261 v264 (ix2 t 0)))
      (Ideal.ofBits .f32 0x7F800000#32) (v261 (ix2 t q)) = masked (f t) 5 q := fun q => by
    rw [h201, h261, pay1_at v201 v261 v264 f h201 h261 h264]
    exact raise_entry (masked (f t) 4) _ q
  unfold k0_pay3
  pointwise
  simp only [hm]
  simp only [h201]
  exact argmin_row (masked (f t) 5)
end

/-- The stored target numbers. -/
theorem pay4_at (t : Fin 300) (j : Fin 6) : (k0_pay4 : IVec S1x300x6 32) (ix3 0 t j) = BitVec.ofNat 32 t.val := by
  unfold k0_pay4
  pointwise

end Cert.Match

end
-- ==== Proof.KernelCost.lean ====
/- The kernel's cost at a target and a query: the shared cost of the query's logit at the target's label, the query's
   box and the target's corners. The loaded blocks are variables. -/
module

public import proofs.«01_k».proof.Proof.Gen.KernelIdeal.Frame
public import proofs.«01_k».proof.Proof.Cost
public import Idealize.ShloMosaic.Lib.WordCmp

@[expose] public section

set_option maxRecDepth 16384

noncomputable section

namespace Cert.Match

open Idealize.ShloMosaic Idealize.ShloMosaic.TcCoe Idealize.SL.Sem
open Cert.KernelIdeal Cert.KernelIdeal.Gen

variable (L0 : Vec Ideal S1x900x91 .f32) (L1 : Vec Ideal S1x4x900 .f32) (L2 : Vec Ideal S1x300x1 .i32)
  (L3 : Vec Ideal S1x300x4 .f32)

/-- The class term the kernel computes for every query and class. -/
theorem pay5_at (q : Fin 900) (k : Fin 91) : k0_pay5 L0 (ix2 q k) = classGap (prob (L0 (ix3 0 q k))) := by
  unfold k0_pay5
  pointwise
  simp only [ne_eq, not_true_eq_false, if_false, zero_sub]
  rfl

/-- A sum against the indicator of one class is that class's term. -/
theorem sum_indicator (w : BitVec 32) (l : Fin 91) (hw : w = BitVec.ofNat 32 l.val) (d : Fin 91 → EReal) :
    (∑ k : Fin 91, FloatOps.sitofp (F := Ideal) FTy.f32
      (BitVec.setWidth 32 (IntOp.cmpi CmpIPredicate.eq w (BitVec.ofNat 32 k.val))) * d k) = d l := by
  have h1 : ∀ k : Fin 91, FloatOps.sitofp (F := Ideal) FTy.f32
      (BitVec.setWidth 32 (IntOp.cmpi CmpIPredicate.eq w (BitVec.ofNat 32 k.val))) * d k = if k = l then d l else (0 : EReal) := by
    intro k
    have hk := k.isLt
    have hl := l.isLt
    by_cases h : k = l
    · subst h
      rw [hw, if_pos rfl]
      have e : BitVec.setWidth 32 (IntOp.cmpi CmpIPredicate.eq (BitVec.ofNat 32 k.val) (BitVec.ofNat 32 k.val)) = 1#32 := by
        simp [IntOp.cmpi]
      rw [e]
      have e1 : FloatOps.sitofp (F := Ideal) FTy.f32 1#32 = (1 : EReal) := by
        show (((1#32 : BitVec 32).toInt : ℝ) : EReal) = 1
        simp
      rw [e1, one_mul]
    · have hv : l.val ≠ k.val := fun e => h (Fin.ext e.symm)
      have hne : BitVec.ofNat 32 l.val ≠ BitVec.ofNat 32 k.val := by
        intro e
        have := congrArg BitVec.toNat e
        rw [BitVec.toNat_ofNat, BitVec.toNat_ofNat, Nat.mod_eq_of_lt (by omega), Nat.mod_eq_of_lt (by omega)] at this
        exact hv this
      rw [hw, if_neg h]
      have e : BitVec.setWidth 32 (IntOp.cmpi CmpIPredicate.eq (BitVec.ofNat 32 l.val) (BitVec.ofNat 32 k.val)) = 0#32 := by
        simp [IntOp.cmpi, beq_eq_false_iff_ne.mpr hne]
      rw [e]
      have e0 : FloatOps.sitofp (F := Ideal) FTy.f32 0#32 = (0 : EReal) := by
        show (((0#32 : BitVec 32).toInt : ℝ) : EReal) = 0
        simp
      rw [e0, zero_mul]
  rw [Finset.sum_congr rfl fun k _ => h1 k, Finset.sum_ite_eq' Finset.univ l, if_pos (Finset.mem_univ l)]

/-- The class term of a target: the one at its label. -/
theorem pay6_at (t : Fin 300) (q : Fin 900) (l : Fin 91) (hl : L2 (ix3 0 t 0) = BitVec.ofNat 32 l.val) :
    k0_pay6 (k0_pay5 L0) L2 (ix2 t q) = classGap (prob (L0 (ix3 0 q l))) := by
  unfold k0_pay6
  pointwise
  rw [sum_indicator _ l hl fun k => k0_pay5 L0 (ix2 q k)]
  exact pay5_at L0 q l

/-! ### The boxes -/

/-- The query's box. -/
def kbox (q : Fin 900) (k : Fin 4) : EReal := Ideal.logistic (L1 (ix3 0 k q))

/-- The target's corners. -/
def kcorner (t : Fin 300) (k : Fin 4) : EReal := unit01 (L3 (ix3 0 t k))

/-- Box entry 0 of a query, after the sigmoid. -/
theorem pay8_at (q : Fin 900) : k0_pay8 L1 (ix2 0 q) = kbox L1 q 0 := by
  unfold k0_pay8 k0_pay7; pointwise; rfl
/-- Box entry 1 of a query, after the sigmoid. -/
theorem pay9_at (q : Fin 900) : k0_pay9 L1 (ix2 0 q) = kbox L1 q 1 := by
  unfold k0_pay9 k0_pay7; pointwise; rfl
/-- Box entry 2 of a query, after the sigmoid. -/
theorem pay10_at (q : Fin 900) : k0_pay10 L1 (ix2 0 q) = kbox L1 q 2 := by
  unfold k0_pay10 k0_pay7; pointwise; rfl
/-- Box entry 3 of a query, after the sigmoid. -/
theorem pay11_at (q : Fin 900) : k0_pay11 L1 (ix2 0 q) = kbox L1 q 3 := by
  unfold k0_pay11 k0_pay7; pointwise; rfl
/-- Corner entry 0 of a target, after the clamp. -/
theorem pay13_at (t : Fin 300) : k0_pay13 L3 (ix2 t 0) = kcorner L3 t 0 := by
  unfold k0_pay13 k0_pay12; pointwise; rfl
/-- Corner entry 1 of a target, after the clamp. -/
theorem pay14_at (t : Fin 300) : k0_pay14 L3 (ix2 t 0) = kcorner L3 t 1 := by
  unfold k0_pay14 k0_pay12; pointwise; rfl
/-- Corner entry 2 of a target, after the clamp. -/
theorem pay15_at (t : Fin 300) : k0_pay15 L3 (ix2 t 0) = kcorner L3 t 2 := by
  unfold k0_pay15 k0_pay12; pointwise; rfl
/-- Corner entry 3 of a target, after the clamp. -/
theorem pay16_at (t : Fin 300) : k0_pay16 L3 (ix2 t 0) = kcorner L3 t 3 := by
  unfold k0_pay16 k0_pay12; pointwise; rfl

/-- The four numbers of a centred target, one by one. -/
theorem centred_0 (t : Fin 4 → EReal) : centred t 0 = (t 0 + t 2) * Ideal.ofBits .f32 0x3F000000#32 := rfl
/-- The second centre coordinate of a target. -/
theorem centred_1 (t : Fin 4 → EReal) : centred t 1 = (t 1 + t 3) * Ideal.ofBits .f32 0x3F000000#32 := rfl
/-- The width of a target. -/
theorem centred_2 (t : Fin 4 → EReal) : centred t 2 = max (t 2 - t 0) (Ideal.ofBits .f32 0x3727C5AC#32) := rfl
/-- The height of a target. -/
theorem centred_3 (t : Fin 4 → EReal) : centred t 3 = max (t 3 - t 1) (Ideal.ofBits .f32 0x3727C5AC#32) := rfl

/-- The box distance. -/
theorem pay21_at (t : Fin 300) (q : Fin 900) :
    k0_pay21 (k0_pay11 L1) (k0_pay17 L3) (k0_pay18 L3) (k0_pay19 L1 L3) (k0_pay20 L1) (ix2 t q)
      = boxGap (kbox L1 q) (kcorner L3 t) := by
  unfold k0_pay21 k0_pay17 k0_pay18 k0_pay19 k0_pay20
  pointwise
  rw [pay8_at, pay9_at, pay10_at, pay11_at, pay13_at, pay14_at, pay15_at, pay16_at, boxGap, Fin.sum_univ_four]
  rw [centred_0, centred_1, centred_2, centred_3]
  rfl

/-- The left edge of a query. -/
theorem pay22_at (q : Fin 900) : k0_pay22 (k0_pay8 L1) (k0_pay10 L1) (ix2 0 q) = corners (kbox L1 q) 0 := by
  unfold k0_pay22; pointwise; rw [pay8_at, pay10_at]; rfl
/-- The upper edge of a query. -/
theorem pay23_at (q : Fin 900) : k0_pay23 (k0_pay9 L1) (k0_pay11 L1) (ix2 0 q) = corners (kbox L1 q) 1 := by
  unfold k0_pay23; pointwise; rw [pay9_at, pay11_at]; rfl
/-- The right edge of a query. -/
theorem pay24_at (q : Fin 900) : k0_pay24 (k0_pay8 L1) (k0_pay10 L1) (ix2 0 q) = corners (kbox L1 q) 2 := by
  unfold k0_pay24; pointwise; rw [pay8_at, pay10_at]; rfl
/-- The lower edge of a query. -/
theorem pay25_at (q : Fin 900) : k0_pay25 (k0_pay9 L1) (k0_pay11 L1) (ix2 0 q) = corners (kbox L1 q) 3 := by
  unfold k0_pay25; pointwise; rw [pay9_at, pay11_at]; rfl

/-- The greater of the two left edges. -/
theorem pay26_at (t : Fin 300) (q : Fin 900) : k0_pay26 (k0_pay8 L1) (k0_pay10 L1) (k0_pay13 L3) (ix2 t q)
    = max (corners (kbox L1 q) 0) (kcorner L3 t 0) := by
  unfold k0_pay26; pointwise; rw [pay22_at, pay13_at]
/-- The greater of the two upper edges. -/
theorem pay27_at (t : Fin 300) (q : Fin 900) : k0_pay27 (k0_pay9 L1) (k0_pay11 L1) (k0_pay14 L3) (ix2 t q)
    = max (corners (kbox L1 q) 1) (kcorner L3 t 1) := by
  unfold k0_pay27; pointwise; rw [pay23_at, pay14_at]
/-- The lesser of the two right edges. -/
theorem pay28_at (t : Fin 300) (q : Fin 900) : k0_pay28 (k0_pay8 L1) (k0_pay10 L1) (k0_pay15 L3) (ix2 t q)
    = min (corners (kbox L1 q) 2) (kcorner L3 t 2) := by
  unfold k0_pay28; pointwise; rw [pay24_at, pay15_at]
/-- The lower edge of a query, at every target. -/
theorem pay29_at (t : Fin 300) (q : Fin 900) : k0_pay29 (k0_pay9 L1) (k0_pay11 L1) (ix2 t q)
    = corners (kbox L1 q) 3 := by
  unfold k0_pay29; pointwise; rw [pay25_at]
/-- The lower edge of a target, at every query. -/
theorem pay30_at (t : Fin 300) (q : Fin 900) : k0_pay30 (k0_pay16 L3) (ix2 t q) = kcorner L3 t 3 := by
  unfold k0_pay30; pointwise; rw [pay16_at]

/-- The shared area. -/
theorem pay31_at (t : Fin 300) (q : Fin 900) :
    k0_pay31 (k0_pay26 (k0_pay8 L1) (k0_pay10 L1) (k0_pay13 L3)) (k0_pay27 (k0_pay9 L1) (k0_pay11 L1) (k0_pay14 L3))
      (k0_pay28 (k0_pay8 L1) (k0_pay10 L1) (k0_pay15 L3)) (k0_pay29 (k0_pay9 L1) (k0_pay11 L1)) (k0_pay30 (k0_pay16 L3)) (ix2 t q)
      = shared (corners (kbox L1 q)) (kcorner L3 t) := by
  unfold k0_pay31
  pointwise
  rw [pay26_at, pay27_at, pay28_at, pay29_at, pay30_at]
  rfl

/-- The kernel's covered area as a term of the loaded blocks. -/
def kcovered : FVec Ideal S300x900 .f32 :=
  k0_pay32 (k0_pay13 L3) (k0_pay14 L3) (k0_pay15 L3) (k0_pay16 L3) (k0_pay22 (k0_pay8 L1) (k0_pay10 L1))
    (k0_pay23 (k0_pay9 L1) (k0_pay11 L1)) (k0_pay24 (k0_pay8 L1) (k0_pay10 L1)) (k0_pay25 (k0_pay9 L1) (k0_pay11 L1))
    (k0_pay26 (k0_pay8 L1) (k0_pay10 L1) (k0_pay13 L3)) (k0_pay27 (k0_pay9 L1) (k0_pay11 L1) (k0_pay14 L3))
    (k0_pay28 (k0_pay8 L1) (k0_pay10 L1) (k0_pay15 L3)) (k0_pay29 (k0_pay9 L1) (k0_pay11 L1)) (k0_pay30 (k0_pay16 L3))

/-- The kernel's ratio of the shared to the covered area. -/
def kratio : FVec Ideal S300x900 .f32 :=
  k0_pay33 (k0_pay13 L3) (k0_pay14 L3) (k0_pay15 L3) (k0_pay16 L3) (k0_pay22 (k0_pay8 L1) (k0_pay10 L1))
    (k0_pay23 (k0_pay9 L1) (k0_pay11 L1)) (k0_pay24 (k0_pay8 L1) (k0_pay10 L1)) (k0_pay25 (k0_pay9 L1) (k0_pay11 L1))
    (k0_pay26 (k0_pay8 L1) (k0_pay10 L1) (k0_pay13 L3)) (k0_pay27 (k0_pay9 L1) (k0_pay11 L1) (k0_pay14 L3))
    (k0_pay28 (k0_pay8 L1) (k0_pay10 L1) (k0_pay15 L3)) (k0_pay29 (k0_pay9 L1) (k0_pay11 L1)) (k0_pay30 (k0_pay16 L3))

/-- The kernel's area round both boxes. -/
def karound : FVec Ideal S300x900 .f32 :=
  k0_pay34 (k0_pay13 L3) (k0_pay14 L3) (k0_pay15 L3) (k0_pay16 L3) (k0_pay22 (k0_pay8 L1) (k0_pay10 L1))
    (k0_pay23 (k0_pay9 L1) (k0_pay11 L1)) (k0_pay24 (k0_pay8 L1) (k0_pay10 L1)) (k0_pay25 (k0_pay9 L1) (k0_pay11 L1))

/-- The covered area at a target and a query. -/
theorem kcovered_at (t : Fin 300) (q : Fin 900) : kcovered L1 L3 (ix2 t q) = covered (corners (kbox L1 q)) (kcorner L3 t) := by
  unfold kcovered k0_pay32
  pointwise
  rw [pay31_at, pay22_at, pay23_at, pay24_at, pay25_at, pay13_at, pay14_at, pay15_at, pay16_at]
  rfl

/-- The quotient of the shared and the covered area at a target and a query. -/
theorem kratio_at (t : Fin 300) (q : Fin 900) : kratio L1 L3 (ix2 t q)
    = Ideal.div (shared (corners (kbox L1 q)) (kcorner L3 t)) (covered (corners (kbox L1 q)) (kcorner L3 t)) := by
  unfold kratio k0_pay33
  pointwise
  rw [pay31_at]
  exact congrArg _ (kcovered_at L1 L3 t q)

/-- The area of the box round both, at a target and a query. -/
theorem karound_at (t : Fin 300) (q : Fin 900) : karound L1 L3 (ix2 t q) = around (corners (kbox L1 q)) (kcorner L3 t) := by
  unfold karound k0_pay34
  pointwise
  rw [pay22_at, pay23_at, pay24_at, pay25_at, pay13_at, pay14_at, pay15_at, pay16_at]
  rfl

/-- The kernel's class and box terms as terms of the loaded blocks. -/
def kclass : FVec Ideal S300x900 .f32 := k0_pay6 (k0_pay5 L0) L2
/-- The distances of the boxes, in the terms the kernel names. -/
def kgap : FVec Ideal S300x900 .f32 :=
  k0_pay21 (k0_pay11 L1) (k0_pay17 L3) (k0_pay18 L3) (k0_pay19 L1 L3) (k0_pay20 L1)

/-- The kernel's cost at a target and a query. -/
theorem pay35_at (t : Fin 300) (q : Fin 900) (l : Fin 91) (hl : L2 (ix3 0 t 0) = BitVec.ofNat 32 l.val) :
    k0_pay35 (kclass L0 L2) (kgap L1 L3) (kcovered L1 L3) (kratio L1 L3) (karound L1 L3) (ix2 t q)
      = costOf (L0 (ix3 0 q l)) (fun k => L1 (ix3 0 k q)) (fun k => L3 (ix3 0 t k)) := by
  unfold k0_pay35
  pointwise
  rw [kcovered_at, kratio_at, karound_at]
  rw [show kclass L0 L2 (ix2 t q) = _ from pay6_at L0 L2 t q l hl, show kgap L1 L3 (ix2 t q) = _ from pay21_at L1 L3 t q]
  rfl

end Cert.Match

end
-- ==== Proof.KernelValue.lean ====
/- What the kernel leaves in its two result arrays, and what the host lines after it make of them. -/
module

public import proofs.«01_k».proof.Proof.Rounds
public import proofs.«01_k».proof.Proof.KernelCost
public import Idealize.ShloMosaic.Lib.Pipeline.ValueKit
public import Idealize.ShloMosaic.Lib.Pipeline.Value
public import Idealize.ShloMosaic.Lib.Claim

@[expose] public section

set_option maxRecDepth 16384

noncomputable section

namespace Cert.Match

open Idealize.ShloMosaic Idealize.ShloMosaic.TcCoe Idealize.SL.Sem
open Idealize.ShloMosaic.Pipeline (Dat)
open Cert.KernelIdeal Cert.KernelIdeal.Gen

/-! ### One grid point -/

section
variable (x0 : Vec Ideal S1x900x91 .f32) (x1 : Vec Ideal S1x4x900 .f32) (x2 : Vec Ideal S1x300x1 .i32)
  (x3 : Vec Ideal S1x300x4 .f32)

/-- The row of costs of a target, in the terms the kernel names. -/
def blockRow (t : Fin 300) : Fin 900 → EReal :=
  row35 (k0_pay49 x0 x1 x2 x3) (k0_pay58 x0 x1 x2 x3) (k0_pay68 x0 x1 x2 x3) (k0_pay69 x0 x1 x2 x3) (k0_pay70 x0 x1 x2 x3) t

/-- The row of costs is the shared cost of the block's entries. -/
theorem blockRow_eq (t : Fin 300) (l : Fin 91) (hl : x2 (ix3 0 t 0) = BitVec.ofNat 32 l.val) :
    blockRow x0 x1 x2 x3 t
      = fun q => costOf (x0 (ix3 0 q l)) (fun k => x1 (ix3 0 k q)) (fun k => x3 (ix3 0 t k)) := by
  have z : (![0, 0, 0] : Fin 3 → Nat) = fun _ => 0 := by funext a; fin_cases a <;> rfl
  have e0 := View.ld_unit_zero (Val := Elt Ideal) (e := .f32) z inb_S1x900x91_S1x900x91_0_0_0 x0
  have e1 := View.ld_unit_zero (Val := Elt Ideal) (e := .f32) z inb_S1x4x900_S1x4x900_0_0_0 x1
  have e2 := View.ld_unit_zero (Val := Elt Ideal) (e := .i32) z inb_S1x300x1_S1x300x1_0_0_0 x2
  have e3 := View.ld_unit_zero (Val := Elt Ideal) (e := .f32) z inb_S1x300x4_S1x300x4_0_0_0 x3
  have h49 : k0_pay49 x0 x1 x2 x3 = kclass x0 x2 := by unfold k0_pay49 kclass; rw [e0, e2]
  have h50 : k0_pay50 x0 x1 x2 x3 = k0_pay8 x1 := by unfold k0_pay50; rw [e1]
  have h51 : k0_pay51 x0 x1 x2 x3 = k0_pay9 x1 := by unfold k0_pay51; rw [e1]
  have h52 : k0_pay52 x0 x1 x2 x3 = k0_pay10 x1 := by unfold k0_pay52; rw [e1]
  have h53 : k0_pay53 x0 x1 x2 x3 = k0_pay11 x1 := by unfold k0_pay53; rw [e1]
  have h54 : k0_pay54 x0 x1 x2 x3 = k0_pay13 x3 := by unfold k0_pay54; rw [e3]
  have h55 : k0_pay55 x0 x1 x2 x3 = k0_pay14 x3 := by unfold k0_pay55; rw [e3]
  have h56 : k0_pay56 x0 x1 x2 x3 = k0_pay15 x3 := by unfold k0_pay56; rw [e3]
  have h57 : k0_pay57 x0 x1 x2 x3 = k0_pay16 x3 := by unfold k0_pay57; rw [e3]
  have h58 : k0_pay58 x0 x1 x2 x3 = kgap x1 x3 := by unfold k0_pay58 kgap; rw [h53, e1, e3]
  have h59 : k0_pay59 x0 x1 x2 x3 = k0_pay22 (k0_pay8 x1) (k0_pay10 x1) := by unfold k0_pay59; rw [h50, h52]
  have h60 : k0_pay60 x0 x1 x2 x3 = k0_pay23 (k0_pay9 x1) (k0_pay11 x1) := by unfold k0_pay60; rw [h51, h53]
  have h61 : k0_pay61 x0 x1 x2 x3 = k0_pay24 (k0_pay8 x1) (k0_pay10 x1) := by unfold k0_pay61; rw [h50, h52]
  have h62 : k0_pay62 x0 x1 x2 x3 = k0_pay25 (k0_pay9 x1) (k0_pay11 x1) := by unfold k0_pay62; rw [h51, h53]
  have h63 : k0_pay63 x0 x1 x2 x3 = k0_pay26 (k0_pay8 x1) (k0_pay10 x1) (k0_pay13 x3) := by
    unfold k0_pay63; rw [h50, h52, h54]
  have h64 : k0_pay64 x0 x1 x2 x3 = k0_pay27 (k0_pay9 x1) (k0_pay11 x1) (k0_pay14 x3) := by
    unfold k0_pay64; rw [h51, h53, h55]
  have h65 : k0_pay65 x0 x1 x2 x3 = k0_pay28 (k0_pay8 x1) (k0_pay10 x1) (k0_pay15 x3) := by
    unfold k0_pay65; rw [h50, h52, h56]
  have h66 : k0_pay66 x0 x1 x2 x3 = k0_pay29 (k0_pay9 x1) (k0_pay11 x1) := by unfold k0_pay66; rw [h51, h53]
  have h67 : k0_pay67 x0 x1 x2 x3 = k0_pay30 (k0_pay16 x3) := by unfold k0_pay67; rw [h57]
  have h68 : k0_pay68 x0 x1 x2 x3 = kcovered x1 x3 := by
    unfold k0_pay68 kcovered; rw [h54, h55, h56, h57, h59, h60, h61, h62, h63, h64, h65, h66, h67]
  have h69 : k0_pay69 x0 x1 x2 x3 = kratio x1 x3 := by
    unfold k0_pay69 kratio; rw [h54, h55, h56, h57, h59, h60, h61, h62, h63, h64, h65, h66, h67]
  have h70 : k0_pay70 x0 x1 x2 x3 = karound x1 x3 := by
    unfold k0_pay70 karound; rw [h54, h55, h56, h57, h59, h60, h61, h62]
  funext q
  unfold blockRow row35
  rw [h49, h58, h68, h69, h70]
  exact pay35_at x0 x1 x2 x3 t q l hl

/-- The row numbers the kernel compares with. -/
theorem pay71_at (t : Fin 300) (q : Fin 900) : k0_pay71 x0 x1 x2 x3 (ix2 t q) = BitVec.ofNat 32 q.val := by
  unfold k0_pay71
  pointwise

/-- The costs after the first round: the pick replaced. -/
theorem pay72_at (t : Fin 300) (q : Fin 900) : k0_pay72 x0 x1 x2 x3 (ix2 t q) = masked (blockRow x0 x1 x2 x3 t) 1 q := by
  unfold k0_pay72
  exact pay38_at _ _ _ _ _ t q

/-- The pick of the second round. -/
theorem pay73_at (t : Fin 300) : k0_pay73 x0 x1 x2 x3 (ix2 t 0) = BitVec.ofNat 32 (sel (blockRow x0 x1 x2 x3 t) 1).val := by
  unfold k0_pay73
  exact pay39_at _ _ _ _ _ t

/-- The costs after four rounds. -/
theorem pay74_at (t : Fin 300) (q : Fin 900) : k0_pay74 x0 x1 x2 x3 (ix2 t q) = masked (blockRow x0 x1 x2 x3 t) 4 q := by
  unfold k0_pay74
  exact pay47_at _ _ _ (blockRow x0 x1 x2 x3) (pay71_at x0 x1 x2 x3) (pay72_at x0 x1 x2 x3) (pay73_at x0 x1 x2 x3) t q

/-- The least cost left after four rounds. -/
theorem pay75_at (t : Fin 300) (q : Fin 900) : k0_pay75 x0 x1 x2 x3 (ix2 t q)
    = Finset.univ.fold min (Ideal.ofBits .f32 0x7F800000#32) (masked (blockRow x0 x1 x2 x3 t) 4) := by
  unfold k0_pay75
  exact pay48_at _ _ _ (blockRow x0 x1 x2 x3) (pay71_at x0 x1 x2 x3) (pay72_at x0 x1 x2 x3) (pay73_at x0 x1 x2 x3) t q

/-- An index of a one-column piece is its row. -/
theorem column_idx (x : S1x300x1.Idx) (t : Fin 300) (h : (x 1 : ℕ) = t.val) : x = ix3 0 t 0 := by
  blk_ext

/-- The body's first result at a row and a column: the position picked in that round. -/
theorem out4_at (y : S1x300x6.Idx) (t : Fin 300) (j : Fin 6) (e1 : (y 1 : ℕ) = t.val) (e2 : (y 2 : ℕ) = j.val) :
    out0_4 x0 x1 x2 x3 y = BitVec.ofNat 32 (sel (blockRow x0 x1 x2 x3 t) j.val).val := by
  unfold out0_4
  canon_tiles x h
  · rw [column_idx x t (by omega), show j.val = 5 by omega]
    exact pay3_at _ _ _ (blockRow x0 x1 x2 x3) (pay71_at x0 x1 x2 x3) (pay74_at x0 x1 x2 x3) (pay75_at x0 x1 x2 x3) t
  · rw [column_idx x t (by omega), show j.val = 4 by omega]
    exact pay2_at _ _ _ (blockRow x0 x1 x2 x3) (pay71_at x0 x1 x2 x3) (pay74_at x0 x1 x2 x3) (pay75_at x0 x1 x2 x3) t
  · rw [column_idx x t (by omega), show j.val = 3 by omega]
    exact pay46_at _ _ _ (blockRow x0 x1 x2 x3) (pay71_at x0 x1 x2 x3) (pay72_at x0 x1 x2 x3) (pay73_at x0 x1 x2 x3) t
  · rw [column_idx x t (by omega), show j.val = 2 by omega]
    exact pay43_at _ _ _ (blockRow x0 x1 x2 x3) (pay71_at x0 x1 x2 x3) (pay72_at x0 x1 x2 x3) (pay73_at x0 x1 x2 x3) t
  · rw [column_idx x t (by omega), show j.val = 1 by omega, pay40_at]
    exact pay73_at x0 x1 x2 x3 t
  · rw [column_idx x t (by omega), show j.val = 0 by omega]
    exact pay37_at _ _ _ _ _ t

/-- The body's second result at a row and a column: the row's number. -/
theorem out5_at (y : S1x300x6.Idx) (t : Fin 300) (j : Fin 6) (e1 : (y 1 : ℕ) = t.val) (e2 : (y 2 : ℕ) = j.val) :
    out0_5 x0 x1 x2 x3 y = BitVec.ofNat 32 t.val := by
  have hy : y = ix3 0 t j := by blk_ext
  rw [hy]
  frame_out
  exact pay4_at t j
end

/-! ### The arrays -/

section
variable (m : (ℓ : Loc nD τ sig) → Buf (Elt Ideal) ℓ) (c : Dev nD)

/-- Every window's block index is the grid point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ t.val < 8 :=
  (by decide +kernel : ∀ t : Fin grid0.N, _)

/-- The boxes the region reads: the argument with its last two axes exchanged. -/
theorem V_boxes : V m c main_v0
    = transpose S8x4x900 [0, 2, 1] (m ((c : Thread nD τ).loc main_arg1)) transposes_S8x900x4_S8x4x900_0_2_1 := by
  show StableHlo.after _ _ _ = _
  simp only [List.flatten_cons, List.flatten_nil, List.append_nil]
  unfold hostOps0
  after_results

/-- The labels the region reads: the argument as columns. -/
theorem V_labels : V m c main_v1
    = shapeCast S8x300x1 (m ((c : Thread nD τ).loc main_arg2)) shapeCasts_S8x300_S8x300x1 := by
  show StableHlo.after _ _ _ = _
  simp only [List.flatten_cons, List.flatten_nil, List.append_nil]
  unfold hostOps0
  after_results
  rfl

/-- The block of logits at a grid point is the batch's logits. -/
theorem blk0 (t : Fin cfg0.N) (b : Fin 8) (hb : b.val = t.val) (q : Fin 900) (k : Fin 91) :
    iblk m c 0 t (ix3 0 q k) = m ((c : Thread nD τ).loc main_arg0) (ix3 b q k) := by
  blk_ext [iblk, V_main_arg0, idx t]

/-- The block of boxes at a grid point is the batch's boxes, turned. -/
theorem blk1 (t : Fin cfg0.N) (b : Fin 8) (hb : b.val = t.val) (q : Fin 900) (k : Fin 4) :
    iblk m c 1 t (ix3 0 k q) = m ((c : Thread nD τ).loc main_arg1) (ix3 b q k) := by
  have h : iblk m c 1 t (ix3 0 k q) = V m c main_v0 (ix3 b k q) := by blk_ext [iblk, idx t]
  rw [h, V_boxes]
  pointwise

/-- The block of labels at a grid point is the batch's labels. -/
theorem blk2 (t : Fin cfg0.N) (b : Fin 8) (hb : b.val = t.val) (q : Fin 300) :
    iblk m c 2 t (ix3 0 q 0) = m ((c : Thread nD τ).loc main_arg2) (ix2 b q) := by
  have h : iblk m c 2 t (ix3 0 q 0) = V m c main_v1 (ix3 b q 0) := by blk_ext [iblk, idx t]
  rw [h, V_labels]
  pointwise

/-- The block of corners at a grid point is the batch's corners. -/
theorem blk3 (t : Fin cfg0.N) (b : Fin 8) (hb : b.val = t.val) (q : Fin 300) (k : Fin 4) :
    iblk m c 3 t (ix3 0 q k) = m ((c : Thread nD τ).loc main_arg3) (ix3 b q k) := by
  blk_ext [iblk, V_main_arg3, idx t]

/-- The costs over the kernel's arguments. -/
def kcost (lab : Fin 8 → Fin 300 → Fin 91) : Fin 8 → Fin 300 → Fin 900 → EReal :=
  matchCost (fun b q k => m ((c : Thread nD τ).loc main_arg0) (ix3 b q k))
    (fun b q k => m ((c : Thread nD τ).loc main_arg1) (ix3 b q k))
    (fun b t k => m ((c : Thread nD τ).loc main_arg3) (ix3 b t k)) lab

/-- The first result array: at batch `b`, target `t` and column `j`, the position picked in round `j`. -/
theorem final4 (lab : Fin 8 → Fin 300 → Fin 91)
    (hlab : ∀ b t, m ((c : Thread nD τ).loc main_arg2) (ix2 b t) = BitVec.ofNat 32 (lab b t).val) :
    (dats m 0 c).arrAt 4 (cfgs 0).N
      = fun i : S8x300x6.Idx => BitVec.ofNat 32 (sel (kcost m c lab (i 0) (i 1)) (i 2).val).val := by
  refine (dats m 0 c).arrAt_eq_of_covers 4 _ (by decide +kernel) fun t _ y => ?_
  have key : ∀ i : S8x300x6.Idx, (i 0 : ℕ) = t.val → (i 1 : ℕ) = y 1 → (i 2 : ℕ) = y 2 →
      out0_4 (iblk m c 0 t) (iblk m c 1 t) (iblk m c 2 t) (iblk m c 3 t) y
        = BitVec.ofNat 32 (sel (kcost m c lab (i 0) (i 1)) (i 2).val).val := by
    intro i h0 h1 h2
    rw [out4_at _ _ _ _ y (i 1) (i 2) h1.symm h2.symm,
      blockRow_eq _ _ _ _ (i 1) (lab (i 0) (i 1)) ((blk2 m c t (i 0) h0 (i 1)).trans (hlab _ _))]
    refine congrArg (fun f => BitVec.ofNat 32 (sel f (i 2).val).val) (funext fun q => ?_)
    rw [blk0 m c t (i 0) h0]
    rw [show (fun k => iblk m c 1 t (ix3 0 k q)) = fun k => m ((c : Thread nD τ).loc main_arg1) (ix3 (i 0) q k) from
      funext fun k => blk1 m c t (i 0) h0 q k,
      show (fun k => iblk m c 3 t (ix3 0 (i 1) k)) = fun k => m ((c : Thread nD τ).loc main_arg3) (ix3 (i 0) (i 1) k) from
      funext fun k => blk3 m c t (i 0) h0 (i 1) k]
    rfl
  have q0 : ((((win0_4.blk t).view.emb y) 0 : Fin 8) : ℕ) = t.val := by blk_simp [idx t]
  have q1 : ((((win0_4.blk t).view.emb y) 1 : Fin 300) : ℕ) = (y 1 : ℕ) := by blk_simp [idx t]
  have q2 : ((((win0_4.blk t).view.emb y) 2 : Fin 6) : ℕ) = (y 2 : ℕ) := by blk_simp [idx t]
  refine Eq.trans ?_ (key _ q0 q1 q2)
  blk_simp
  rw [after0_4]

/-- The second result array: at every column, the target's number. -/
theorem final5 : (dats m 0 c).arrAt 5 (cfgs 0).N = fun i : S8x300x6.Idx => BitVec.ofNat 32 (i 1).val := by
  refine (dats m 0 c).arrAt_eq_of_covers 5 _ (by decide +kernel) fun t _ y => ?_
  have key : ∀ i : S8x300x6.Idx, (i 1 : ℕ) = y 1 → (i 2 : ℕ) = y 2 →
      out0_5 (iblk m c 0 t) (iblk m c 1 t) (iblk m c 2 t) (iblk m c 3 t) y = BitVec.ofNat 32 (i 1).val :=
    fun i h1 h2 => out5_at _ _ _ _ y (i 1) (i 2) h1.symm h2.symm
  have q1 : ((((win0_5.blk t).view.emb y) 1 : Fin 300) : ℕ) = (y 1 : ℕ) := by blk_simp [idx t]
  have q2 : ((((win0_5.blk t).view.emb y) 2 : Fin 6) : ℕ) = (y 2 : ℕ) := by blk_simp [idx t]
  refine Eq.trans ?_ (key _ q1 q2)
  blk_simp
  rw [after0_5]

/-- The host lines after the region make the first result of the first array. -/
theorem tail4 : Pipeline.afterTail₀ cfgs (dats m) 0 (V0 m) [hostOps1] c main_v4
    = shapeCast S8x1800 (transpose S8x6x300 [0, 2, 1] ((dats m 0 c).arrAt 4 (cfgs 0).N) transposes_S8x300x6_S8x6x300_0_2_1)
        shapeCasts_S8x6x300_S8x1800 := by
  unfold Pipeline.afterTail₀
  simp only [List.flatten_cons, List.flatten_nil, List.append_nil]
  unfold hostOps1
  after_results
  rw [← Pipeline.withArrays_arr (cfgs 0).spec launch0.win.arr_inj c (V0 m c)
    (fun w => (dats m 0 c).arrAt w (cfgs 0).N) 4]
  rfl

/-- The host lines after the region make the second result of the second array. -/
theorem tail5 : Pipeline.afterTail₀ cfgs (dats m) 0 (V0 m) [hostOps1] c main_v5
    = shapeCast S8x1800 ((dats m 0 c).arrAt 5 (cfgs 0).N) shapeCasts_S8x300x6_S8x1800 := by
  unfold Pipeline.afterTail₀
  simp only [List.flatten_cons, List.flatten_nil, List.append_nil]
  unfold hostOps1
  after_results
  rw [← Pipeline.withArrays_arr (cfgs 0).spec launch0.win.arr_inj c (V0 m c)
    (fun w => (dats m 0 c).arrAt w (cfgs 0).N) 5]
  rfl
end

end Cert.Match

end
-- ==== Proof.RefCost.lean ====
/- The reference's cost matrix at an entry is the negated shared cost. -/
module

public import proofs.«01_k».proof.Proof.Cost
public import proofs.«01_k».proof.Proof.Gen.ReferenceIdeal.Run
public import Idealize.ShloMosaic.Lib.Pipeline.ValueKit

@[expose] public section

set_option maxRecDepth 16384

noncomputable section

namespace Cert.Match

open Idealize.ShloMosaic Idealize.ShloMosaic.TcCoe Idealize.SL.Sem Idealize.ShloMosaic.StableHlo
open Cert.ReferenceIdeal Cert.ReferenceIdeal.Gen Cert.ReferenceIdeal.Value

/-! ### Reading a class value by a label -/

/-- A label below the number of classes reads back from its word. -/
theorem label_int (l : Fin 91) : (BitVec.ofNat 32 l.val).toInt.toNat = l.val := by
  revert l; decide

/-- A word that is not negative is not moved by the wrap of negative indices. -/
theorem label_kept (l : Fin 91) : Scalar.select (IntOp.cmpi CmpIPredicate.slt (BitVec.ofNat 32 l.val) 0#32)
    (IntOp.addi (BitVec.ofNat 32 l.val) 91#32) (BitVec.ofNat 32 l.val) = BitVec.ofNat 32 l.val := by
  revert l; decide

/-- Reading along the class axis by labels in range. -/
theorem gather_at (x : FVec Ideal S8x900x91 .f32) (y : IVec S8x300x1 32) (b : Fin 8) (q : Fin 900) (t : Fin 300) (l : Fin 91)
    (h : y (ix3 b t 0) = BitVec.ofNat 32 l.val) :
    Host.gather gather_S8x900x91_S8x300x1_S8x900x300_1_2_0_0_2_2_19001 x y (ix3 b q t) = x (ix3 b q l) := by
  have e : gather_S8x900x91_S8x300x1_S8x900x300_1_2_0_0_2_2_19001.operandIdx (ix3 b q t) y = ix3 b q l := by
    have hs : gather_S8x900x91_S8x300x1_S8x900x300_1_2_0_0_2_2_19001.start (ix3 b q t) y 2 = l.val := by
      have hi : gather_S8x900x91_S8x300x1_S8x900x300_1_2_0_0_2_2_19001.siIdx (ix3 b q t) ⟨0, by decide⟩ = ix3 b t 0 := by
        funext a; fin_cases a <;> rfl
      show min (y (gather_S8x900x91_S8x300x1_S8x900x300_1_2_0_0_2_2_19001.siIdx (ix3 b q t) ⟨0, by decide⟩)).toInt.toNat 90 = l.val
      rw [hi, h]
      have := label_int l
      omega
    funext a
    fin_cases a
    · apply Fin.ext
      show 0 + b.val + 0 = b.val
      omega
    · apply Fin.ext
      show 0 + 0 + q.val = q.val
      omega
    · apply Fin.ext
      show gather_S8x900x91_S8x300x1_S8x900x300_1_2_0_0_2_2_19001.start (ix3 b q t) y 2 + 0 + 0 = l.val
      omega
  exact congrArg x e

variable (V : Valuation τ sig (Elt Ideal))

/-- The labels the reference reads with: a label in range is not moved. -/
theorem index1_at (b : Fin 8) (t : Fin 300) (l : Fin 91) (h : V (Proc.devRef .tc main_arg2) (ix2 b t) = BitVec.ofNat 32 l.val) :
    res_main_call1_v5 V (ix3 b t 0) = BitVec.ofNat 32 l.val := by
  unfold res_main_call1_v5
  pointwise
  rw [h]
  exact label_kept l

/-- The same for the second reading. -/
theorem index2_at (b : Fin 8) (t : Fin 300) (l : Fin 91) (h : V (Proc.devRef .tc main_arg2) (ix2 b t) = BitVec.ofNat 32 l.val) :
    res_main_call2_v5 V (ix3 b t 0) = BitVec.ofNat 32 l.val := by
  unfold res_main_call2_v5
  pointwise
  rw [h]
  exact label_kept l

/-- Dividing by one changes nothing. -/
theorem div_one (x : EReal) : Ideal.div x 1 = x := by
  unfold Ideal.div
  rw [if_neg one_ne_zero, ← EReal.coe_one, ← EReal.coe_inv, inv_one, EReal.coe_one, mul_one]

/-- The reference's class probability. -/
theorem prob_at (b : Fin 8) (q : Fin 900) (k : Fin 91) :
    res_main_v14 V (ix3 b q k) = prob (V (Proc.devRef .tc main_arg0) (ix3 b q k)) := by
  unfold res_main_v14 res_main_call0_v5 res_main_call0_v2
  pointwise
  rw [div_one]
  simp only [ne_eq, not_true_eq_false, if_false]
  rfl

/-- A conjunction of ones is one. -/
theorem fold_ones {ι : Type*} (s : Finset ι) (f : ι → BitVec 1) (h : ∀ x ∈ s, f x = 1#1) :
    s.fold IntOp.andi (1#1) f = 1#1 := by
  classical
  induction s using Finset.induction_on with
  | empty => rfl
  | insert a s ha ih =>
    rw [Finset.fold_insert ha, h a (Finset.mem_insert_self a s), ih fun x hx => h x (Finset.mem_insert_of_mem hx)]
    rfl

/-- A label in range passes the range test. -/
theorem label_passes (l : Fin 91) : IntOp.andi (IntOp.cmpi CmpIPredicate.sge (BitVec.ofNat 32 l.val) 0#32)
    (IntOp.cmpi CmpIPredicate.sle (BitVec.ofNat 32 l.val) 90#32) = 1#1 := by
  revert l; decide

/-- The range test over the one label of a target holds. -/
theorem mask_at (Y : IVec S8x300x1 32) (b : Fin 8) (t : Fin 300) (l : Fin 91) (h : Y (ix3 b t 0) = BitVec.ofNat 32 l.val)
    (s : Finset S8x300x1.Idx) (hs : ∀ x ∈ s, reducesTo_S8x300x1_S8x300_d2.drop x = ix2 b t) :
    Finset.fold IntOp.andi (1#1)
      (fun x => IntOp.andi (IntOp.cmpi CmpIPredicate.sge (Y x) 0#32) (IntOp.cmpi CmpIPredicate.sle (Y x) 90#32))
      s = 1#1 := by
  refine fold_ones _ _ fun x hx => ?_
  have hx' : reducesTo_S8x300x1_S8x300_d2.drop x = ix2 b t := hs x hx
  have e0 : (x 0 : ℕ) = b.val := congrArg Fin.val (congrFun hx' 0)
  have e1 : (x 1 : ℕ) = t.val := congrArg Fin.val (congrFun hx' 1)
  have e : x = ix3 b t 0 := by blk_ext
  rw [e, h]
  exact label_passes l

/-- The upper bound of the clamps. -/
theorem bound_one : id (constant (F := Ideal) S_ FTy.f32 0x3F800000#32) ix0 = (1 : EReal) := by
  show constant (F := Ideal) S_ FTy.f32 0x3F800000#32 ix0 = (1 : EReal)
  pointwise

/-- The lower bound of the clamps. -/
theorem bound_zero : id (constant (F := Ideal) S_ FTy.f32 0#32) ix0 = (0 : EReal) := by
  show constant (F := Ideal) S_ FTy.f32 0#32 ix0 = (0 : EReal)
  pointwise

/-- The reference's box entry after the sigmoid. -/
theorem box_at (b : Fin 8) (q : Fin 900) (k : Fin 4) :
    res_main_v6 V (ix3 b q k) = Ideal.logistic (V (Proc.devRef .tc main_arg1) (ix3 b q k)) := by
  unfold res_main_v6
  pointwise
  rfl

/-- The reference's left edge of a target. -/
theorem target0_at (b : Fin 8) (t : Fin 300) : res_main_v42 V (ix2 b t) = unit01 (V (Proc.devRef .tc main_arg3) (ix3 b t 0)) := by
  unfold res_main_v42 res_main_v40
  pointwise
  rw [bound_one, bound_zero]
  rfl
/-- The reference's upper edge of a target. -/
theorem target1_at (b : Fin 8) (t : Fin 300) : res_main_v44 V (ix2 b t) = unit01 (V (Proc.devRef .tc main_arg3) (ix3 b t 1)) := by
  unfold res_main_v44 res_main_v40
  pointwise
  rw [bound_one, bound_zero]
  rfl
/-- The reference's right edge of a target. -/
theorem target2_at (b : Fin 8) (t : Fin 300) : res_main_v46 V (ix2 b t) = unit01 (V (Proc.devRef .tc main_arg3) (ix3 b t 2)) := by
  unfold res_main_v46 res_main_v40
  pointwise
  rw [bound_one, bound_zero]
  rfl
/-- The reference's lower edge of a target. -/
theorem target3_at (b : Fin 8) (t : Fin 300) : res_main_v48 V (ix2 b t) = unit01 (V (Proc.devRef .tc main_arg3) (ix3 b t 3)) := by
  unfold res_main_v48 res_main_v40
  pointwise
  rw [bound_one, bound_zero]
  rfl
/-- The reference's clamped corners of a target. -/
theorem target_at (b : Fin 8) (t : Fin 300) (k : Fin 4) :
    res_main_v96 V (ix4 b 0 t k) = unit01 (V (Proc.devRef .tc main_arg3) (ix3 b t k)) := by
  unfold res_main_v96 res_main_v40
  pointwise
  rw [bound_one, bound_zero]
  rfl

/-- The box of a query after the sigmoid. -/
def rbox (b : Fin 8) (q : Fin 900) (k : Fin 4) : EReal := Ideal.logistic (V (Proc.devRef .tc main_arg1) (ix3 b q k))
/-- The corners of a target after the clamp. -/
def rtarget (b : Fin 8) (t : Fin 300) (k : Fin 4) : EReal := unit01 (V (Proc.devRef .tc main_arg3) (ix3 b t k))

/-- The reference's left edge of a query. -/
theorem corner0_at (b : Fin 8) (q : Fin 900) : res_main_v95 V (ix4 b q 0 0) = corners (rbox V b q) 0 := by
  unfold res_main_v95 res_main_v74 res_main_v76 res_main_v82 res_main_v84
  pointwise
  simp only [box_at]
  rw [bound_one, bound_zero]
  rfl
/-- The reference's upper edge of a query. -/
theorem corner1_at (b : Fin 8) (q : Fin 900) : res_main_v95 V (ix4 b q 0 1) = corners (rbox V b q) 1 := by
  unfold res_main_v95 res_main_v74 res_main_v76 res_main_v82 res_main_v84
  pointwise
  simp only [box_at]
  rw [bound_one, bound_zero]
  rfl
/-- The reference's right edge of a query. -/
theorem corner2_at (b : Fin 8) (q : Fin 900) : res_main_v95 V (ix4 b q 0 2) = corners (rbox V b q) 2 := by
  unfold res_main_v95 res_main_v74 res_main_v76 res_main_v82 res_main_v84
  pointwise
  simp only [box_at]
  rw [bound_one, bound_zero]
  rfl
/-- The reference's lower edge of a query. -/
theorem corner3_at (b : Fin 8) (q : Fin 900) : res_main_v95 V (ix4 b q 0 3) = corners (rbox V b q) 3 := by
  unfold res_main_v95 res_main_v74 res_main_v76 res_main_v82 res_main_v84
  pointwise
  simp only [box_at]
  rw [bound_one, bound_zero]
  rfl

/-- The reference's shared area. -/
theorem shared_at (b : Fin 8) (q : Fin 900) (t : Fin 300) :
    res_main_v114 V (ix3 b q t) = shared (corners (rbox V b q)) (rtarget V b t) := by
  unfold res_main_v114 res_main_v109
  pointwise
  simp only [corner0_at, corner1_at, corner2_at, corner3_at, target_at]
  rfl

/-- The reference's covered area. -/
theorem covered_at (b : Fin 8) (q : Fin 900) (t : Fin 300) :
    res_main_v150 V (ix3 b q t) = covered (corners (rbox V b q)) (rtarget V b t) := by
  unfold res_main_v150
  pointwise
  simp only [corner0_at, corner1_at, corner2_at, corner3_at, target_at, shared_at]
  rfl

/-- The reference's area of the box round both. -/
theorem around_at (b : Fin 8) (q : Fin 900) (t : Fin 300) :
    res_main_v171 V (ix3 b q t) = around (corners (rbox V b q)) (rtarget V b t) := by
  unfold res_main_v171 res_main_v164
  pointwise
  simp only [corner0_at, corner1_at, corner2_at, corner3_at, target_at]
  rfl

/-- One minus a probability, and a probability, are real. -/
theorem prob_real (x : EReal) : IsReal (prob x) := by
  obtain ⟨r, _, _, h⟩ := logistic_real (tame x)
  exact ⟨r, h⟩

/-- The positive class term at a label. -/
theorem positive_at (b : Fin 8) (t : Fin 300) (q : Fin 900) (l : Fin 91) (Y : IVec S8x300x1 32)
    (h : Y (ix3 b t 0) = BitVec.ofNat 32 l.val) :
    Host.gather gather_S8x900x91_S8x300x1_S8x900x300_1_2_0_0_2_2_19001
      (mulf (mulf (broadcastInDim S8x900x91 ![] bcast_S_S8x900x91 (constant S_ .f32 0x3E800000#32))
        (Host.powf (subf (broadcastInDim S8x900x91 ![] bcast_S_S8x900x91 (constant S_ .f32 0x3F800000#32)) (res_main_v14 V))
          (broadcastInDim S8x900x91 ![] bcast_S_S8x900x91 (constant S_ .f32 0x40000000#32))))
        (Host.negf (Host.log (addf (res_main_v14 V) (broadcastInDim S8x900x91 ![] bcast_S_S8x900x91 (constant S_ .f32 0x322BCC77#32))))))
      Y (ix3 b q t)
      = let p := prob (V (Proc.devRef .tc main_arg0) (ix3 b q l))
        Ideal.ofBits .f32 0x3E800000#32 * ((1 - p) * (1 - p)) * -Ideal.log (p + Ideal.ofBits .f32 0x322BCC77#32) := by
  rw [gather_at _ _ b q t l h]
  pointwise
  rw [prob_at]
  show Ideal.ofBits .f32 0x3E800000#32 * Ideal.pow (1 - prob (V (Proc.devRef .tc main_arg0) (ix3 b q l))) (Ideal.ofBits .f32 0x40000000#32) * _ = _
  rw [pow_two_eq (IsReal.one.sub (prob_real _))]

/-- The negative class term at a label. -/
theorem negative_at (b : Fin 8) (t : Fin 300) (q : Fin 900) (l : Fin 91) (Y : IVec S8x300x1 32)
    (h : Y (ix3 b t 0) = BitVec.ofNat 32 l.val) :
    Host.gather gather_S8x900x91_S8x300x1_S8x900x300_1_2_0_0_2_2_19001
      (mulf (mulf (broadcastInDim S8x900x91 ![] bcast_S_S8x900x91 (constant S_ .f32 0x3F400000#32))
        (Host.powf (res_main_v14 V) (broadcastInDim S8x900x91 ![] bcast_S_S8x900x91 (constant S_ .f32 0x40000000#32))))
        (Host.negf (Host.log (addf (subf (broadcastInDim S8x900x91 ![] bcast_S_S8x900x91 (constant S_ .f32 0x3F800000#32)) (res_main_v14 V))
          (broadcastInDim S8x900x91 ![] bcast_S_S8x900x91 (constant S_ .f32 0x322BCC77#32))))))
      Y (ix3 b q t)
      = let p := prob (V (Proc.devRef .tc main_arg0) (ix3 b q l))
        Ideal.ofBits .f32 0x3F400000#32 * (p * p) * -Ideal.log (1 - p + Ideal.ofBits .f32 0x322BCC77#32) := by
  rw [gather_at _ _ b q t l h]
  pointwise
  rw [prob_at]
  show Ideal.ofBits .f32 0x3F400000#32 * Ideal.pow (prob (V (Proc.devRef .tc main_arg0) (ix3 b q l))) (Ideal.ofBits .f32 0x40000000#32) * _ = _
  rw [pow_two_eq (prob_real _)]

/-- The reference's matrix at an entry: the negated cost. -/
theorem matrix_at (b : Fin 8) (t : Fin 300) (q : Fin 900) (l : Fin 91)
    (h : V (Proc.devRef .tc main_arg2) (ix2 b t) = BitVec.ofNat 32 l.val) :
    res_main_v187 V (ix3 b t q) = -costOf (V (Proc.devRef .tc main_arg0) (ix3 b q l))
      (fun k => V (Proc.devRef .tc main_arg1) (ix3 b q k)) (fun k => V (Proc.devRef .tc main_arg3) (ix3 b t k)) := by
  unfold res_main_v187 res_main_v185
  pointwise
  simp only [box_at, target0_at, target1_at, target2_at, target3_at, shared_at, covered_at, around_at]
  unfold costOf cost classGap
  refine congrArg (fun x : EReal => -x) (congrArg₂ (fun x y : EReal => x + y) (congrArg₂ (fun x y : EReal => x + y)
    (congrArg₂ (fun x y : EReal => x - y) ?_ ?_) (congrArg (fun x : EReal => _ * x) ?_)) ?_)
  · refine (congrArg (fun w => Scalar.select w _ _)
      (mask_at _ b t l (index1_at V b t l h) _ fun x hx => (Finset.mem_filter.mp hx).2)).trans ?_
    exact positive_at V b t q l _ (index1_at V b t l h)
  · refine (congrArg (fun w => Scalar.select w _ _)
      (mask_at _ b t l (index2_at V b t l h) _ fun x hx => (Finset.mem_filter.mp hx).2)).trans ?_
    exact negative_at V b t q l _ (index2_at V b t l h)
  · rfl
  · rw [bound_one]
    rfl

end Cert.Match

end
-- ==== Proof.RefTop.lean ====
/- What the reference's search for the greatest entries leaves, and the labels the precondition gives. -/
module

public import proofs.«01_k».proof.Proof.Select
public import proofs.«01_k».proof.Proof.RefCost
public import Idealize.ShloMosaic.Lib.WordCmp
public import proofs.«01_k».proof.Pre_labels_in_range

@[expose] public section

set_option maxRecDepth 16384

noncomputable section

namespace Cert.Match

open Idealize.ShloMosaic Idealize.ShloMosaic.TcCoe Idealize.SL.Sem Idealize.ShloMosaic.StableHlo
open Cert.ReferenceIdeal Cert.ReferenceIdeal.Gen Cert.ReferenceIdeal.Value

/-- An index of the matrix with its column replaced. -/
theorem along_col (b : Fin 8) (t : Fin 300) (q k : Fin 900) :
    (ix3 b t q : S8x300x900.Idx).along 2 k = ix3 b t k := by
  funext a; fin_cases a <;> rfl

/-- The replaced column is the new one. -/
theorem along_self (b : Fin 8) (t : Fin 300) (q k : Fin 900) :
    (((ix3 b t q : S8x300x900.Idx).along 2 k) 2 : Fin 900).val = k.val := by
  rw [along_col]
  rfl

/-- The positions of the greatest entries of a negated row are the picks of the row. -/
theorem top_at (X : FVec Ideal S8x300x900 .f32) (h : S8x300x900.Slices (fun _ => 0) S8x300x6) (b : Fin 8) (t : Fin 300)
    (j : Fin 6) (f : Fin 900 → EReal) (hf : ∀ q, f q ≠ ⊤) (hX : ∀ q, X (ix3 b t q) = -f q) :
    (Host.topK S8x300x6 2 (FloatOps.cmpfTotal (F := Ideal) (φ := .f32) .gt) X h).2 (ix3 b t j) = BitVec.ofNat 32 (sel f j.val).val := by
  have hc : (fun k k' : Fin 900 => FloatOps.cmpfTotal (F := Ideal) (φ := .f32) .gt (X ((ix3 b t (j.castLE (by decide : 6 ≤ 900)) : S8x300x900.Idx).along 2 k))
        (X ((ix3 b t (j.castLE (by decide : 6 ≤ 900)) : S8x300x900.Idx).along 2 k')) == 1#1)
      = fun k k' : Fin 900 => Ideal.cmp .ogt (-(f k)) (-(f k')) == 1#1 := by
    funext k k'
    rw [along_col, along_col, hX, hX]
    rfl
  have hs := sortedFrom_neg hf 6 (by decide) j
  have e : (Host.topK S8x300x6 2 (FloatOps.cmpfTotal (F := Ideal) (φ := .f32) .gt) X h).2 (ix3 b t j)
      = BitVec.ofNat 32 (sortedFrom (fun k k' : Fin 900 =>
          FloatOps.cmpfTotal (F := Ideal) (φ := .f32) .gt (X ((ix3 b t (j.castLE (by decide : 6 ≤ 900)) : S8x300x900.Idx).along 2 k))
            (X ((ix3 b t (j.castLE (by decide : 6 ≤ 900)) : S8x300x900.Idx).along 2 k')) == 1#1) (j.castLE (by decide : 6 ≤ 900))).val := by
    unfold Host.topK Host.sort2
    dsimp only
    rw [dif_pos (by decide : 2 < S8x300x900.rank)]
    unfold extractStridedSlice
    refine (congrArg (Prod.snd (_ : (S8x300x900.Idx → EReal) × (S8x300x900.Idx → BitVec 32)))
      (?_ : _ = (ix3 b t (j.castLE (by decide : 6 ≤ 900)) : S8x300x900.Idx))).trans ?_
    · funext a
      fin_cases a <;> exact Fin.ext (Nat.zero_add _)
    · dsimp only
      rw [dif_pos (by decide : 2 < 3)]
      unfold iotaInDim
      exact congrArg (BitVec.ofNat 32) (along_self b t _ _)
  rw [e, hc, hs]

/-- A conjunction that ends at one has every part at one. -/
theorem ones_of_fold {ι : Type*} (f : ι → BitVec 1) (L : List ι) (v : BitVec 1)
    (h : L.foldl (fun r n => IntOp.andi r (f n)) v = 1#1) : v = 1#1 ∧ ∀ n ∈ L, f n = 1#1 := by
  induction L generalizing v with
  | nil => exact ⟨h, fun n hn => nomatch hn⟩
  | cons a L ih =>
    obtain ⟨h1, h2⟩ := ih _ h
    have hb : ∀ x y : BitVec 1, IntOp.andi x y = 1#1 → x = 1#1 ∧ y = 1#1 := by decide
    obtain ⟨hv, ha⟩ := hb _ _ h1
    refine ⟨hv, fun n hn => ?_⟩
    rcases List.mem_cons.mp hn with rfl | hn
    · exact ha
    · exact h2 n hn

/-- A word that passes both comparisons is a label. -/
theorem label_of_word (w : BitVec 32) (h : IntOp.andi (IntOp.cmpi .sge w 0#32) (IntOp.cmpi .slt w 91#32) = 1#1) :
    ∃ l : Fin 91, w = BitVec.ofNat 32 l.val := by
  have hw : w.toNat < 91 := by
    rw [show (91#32 : BitVec 32) = BitVec.ofNat 32 91 from rfl, WordCmp.andi_sge_zero_slt_ofNat (by norm_num)] at h
    by_contra hn
    rw [decide_eq_false hn] at h
    exact absurd h (by decide)
  exact ⟨⟨w.toNat, hw⟩, by simp⟩

/-- The labels of a set of targets that meet the precondition. -/
theorem labels_of [Cert.Pre_labels_in_range.Facts] (a0 : FVec Ideal S8x900x91 .f32) (a1 : FVec Ideal S8x900x4 .f32) (a2 : IVec S8x300 32)
    (a3 : FVec Ideal S8x300x4 .f32) (h : Cert.Pre_labels_in_range.fn (F := Ideal) a0 a1 a2 a3 = fun _ => 1#1) :
    ∃ lab : Fin 8 → Fin 300 → Fin 91, ∀ b t, a2 (ix2 b t) = BitVec.ofNat 32 (lab b t).val := by
  have h0 := congrFun h ix0
  have hall := (ones_of_fold _ _ _ h0).2
  have key : ∀ b t, ∃ l : Fin 91, a2 (ix2 b t) = BitVec.ofNat 32 l.val := by
    intro b t
    refine label_of_word _ ?_
    have hn := hall (S8x300.rowMajor (ix2 b t)) (List.mem_filter.mpr ⟨List.mem_finRange _, decide_eq_true (funext fun a => a.elim0)⟩)
    rw [Equiv.symm_apply_apply] at hn
    exact hn
  choose lab hlab using key
  exact ⟨lab, hlab⟩

end Cert.Match

end
-- ==== Proof.Equal.lean ====
/- The two programs' results are the same arrays. -/
module

public import proofs.«01_k».proof.Proof.KernelValue
public import proofs.«01_k».proof.Proof.RefTop

@[expose] public section

set_option maxRecDepth 16384

noncomputable section

namespace Cert.Match

open Idealize.ShloMosaic Idealize.ShloMosaic.TcCoe Idealize.SL.Sem Idealize.ShloMosaic.StableHlo

/-- The numbers of the targets, laid out as the second result, in either program's operations. -/
theorem rows_eq (i : Fin 8) (j : Fin 1800) :
    shapeCast Cert.KernelIdeal.S8x1800 (fun i : Cert.KernelIdeal.S8x300x6.Idx => BitVec.ofNat 32 (i 1).val)
        Cert.KernelIdeal.Gen.shapeCasts_S8x300x6_S8x1800 (ix2 i j)
      = broadcastInDim Cert.ReferenceIdeal.S8x1800 ![1] Cert.ReferenceIdeal.Gen.bcast_S1800_S8x1800_1
          (shapeCast Cert.ReferenceIdeal.S1800 (broadcastInDim Cert.ReferenceIdeal.S300x6 ![0] Cert.ReferenceIdeal.Gen.bcast_S300_S300x6_0
            (iotaInDim Cert.ReferenceIdeal.S300 32 0)) Cert.ReferenceIdeal.Gen.shapeCasts_S300x6_S1800) (ix2 i j) := by
  pointwise

/-- An index of the first result's array is its three coordinates. -/
theorem eq_ix3 (i : Cert.ReferenceIdeal.S8x300x6.Idx) : i = ix3 (i 0) (i 1) (i 2) := by
  funext a; fin_cases a <;> rfl

/-- The reference's search finds, at every place, the position picked in that round. -/
theorem search_eq (V : Valuation Cert.ReferenceIdeal.τ Cert.ReferenceIdeal.sig (Elt Ideal)) (lab : Fin 8 → Fin 300 → Fin 91)
    (hlab : ∀ b t, V (Proc.devRef .tc Cert.ReferenceIdeal.main_arg2) (ix2 b t) = BitVec.ofNat 32 (lab b t).val)
    (h : Cert.ReferenceIdeal.S8x300x900.Slices (fun _ => 0) Cert.ReferenceIdeal.S8x300x6) :
    (Host.topK Cert.ReferenceIdeal.S8x300x6 2 (FloatOps.cmpfTotal (F := Ideal) (φ := .f32) .gt)
        (Cert.ReferenceIdeal.Value.res_main_v187 V) h).2
      = fun i => BitVec.ofNat 32 (sel (matchCost (fun b q k => V (Proc.devRef .tc Cert.ReferenceIdeal.main_arg0) (ix3 b q k))
          (fun b q k => V (Proc.devRef .tc Cert.ReferenceIdeal.main_arg1) (ix3 b q k))
          (fun b t k => V (Proc.devRef .tc Cert.ReferenceIdeal.main_arg3) (ix3 b t k)) lab (i 0) (i 1)) (i 2).val).val := by
  funext i
  refine (congrArg _ (eq_ix3 i)).trans (top_at _ h (i 0) (i 1) (i 2) _ (fun q => costOf_ne_top _ _ _) fun q => ?_)
  exact matrix_at V (i 0) (i 1) q (lab (i 0) (i 1)) (hlab _ _)

end Cert.Match

end
-- ==== Proof.lean ====
module

public import proofs.«01_k».proof.Defs
public import proofs.«01_k».proof.Proof.Gen.Kernel
public import proofs.«01_k».proof.Proof.Gen.Kernel.Frame
public import proofs.«01_k».proof.Proof.Equal
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Match

/-- The side conditions of the precondition's operations. -/
theorem preFacts : Cert.Pre_labels_in_range.Facts where
  bcast_S_S8x300 := Cert.ReferenceIdeal.Gen.bcast_S_S8x300
  reducesTo_S8x300_S_d0_1 := by decide
  h_S_ := Cert.ReferenceIdeal.Gen.h_S_

section
open Cert.KernelIdeal Cert.KernelIdeal.Gen

/-- The kernel's run: both results and the arguments. -/
theorem kernel_run (m : (ℓ : Loc nD τ sig) → Buf (Elt Ideal) ℓ) (g : Dev nD → PrngReg) (lab : Dev nD → Fin 8 → Fin 300 → Fin 91)
    (hlab : ∀ (c : Dev nD) b t, m ((c.tc : Thread nD τ).loc main_arg2) (ix2 b t) = BitVec.ofNat 32 (lab c b t).val) :
    θ_run defs (onTc (τ := τ) (main (F := Ideal))) ⟨m, fun _ => 0, g⟩ fun r => ∀ c : Dev nD,
      r.2.mem ((c.tc : Thread nD τ).loc main_v4)
          = shapeCast S8x1800 (transpose S8x6x300 [0, 2, 1]
              (fun i : S8x300x6.Idx => BitVec.ofNat 32 (sel (kcost m c (lab c) (i 0) (i 1)) (i 2).val).val)
              transposes_S8x300x6_S8x6x300_0_2_1) shapeCasts_S8x6x300_S8x1800
      ∧ r.2.mem ((c.tc : Thread nD τ).loc main_v5)
          = shapeCast S8x1800 (fun i : S8x300x6.Idx => BitVec.ofNat 32 (i 1).val) shapeCasts_S8x300x6_S8x1800
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m g) (unchanged m g))
  refine ⟨?_, ?_, h.2 c⟩
  · rw [(h.1 c).2 main_v4 (Pipeline.mem_restRefs_of main_v4 (by decide) (by decide)), tail4, final4 m c (lab c) (hlab c)]
  · rw [(h.1 c).2 main_v5 (Pipeline.mem_restRefs_of main_v5 (by decide) (by decide)), tail5, final5 m c]
end

/-- The reference terminates with its arguments unchanged and every counter at zero: it has no semaphore. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run Cert.ReferenceIdeal.defs _ _).mono (fun r h => ⟨fun c => (h c).2.2, sem_eq_zero_of_no_sems (by decide) r.2⟩)
    (Cert.ReferenceIdeal.Value.run m g)

/-- The kernel and the reference leave the same two arrays, for labels in range. -/
theorem same_results : Cert.algebraic_KernelIdeal_ReferenceIdeal_pre_labels_in_range (hKernelIdeal := Cert.KernelIdeal.Gen.facts)
    (hReferenceIdeal := Cert.ReferenceIdeal.Gen.facts) (hPre_labels_in_range := preFacts) := by
  intro m g m' g' hpre hargs
  haveI := preFacts
  have hl : ∀ c : Dev Cert.KernelIdeal.nD, ∃ lab : Fin 8 → Fin 300 → Fin 91, ∀ b t,
      m ((c.tc : Thread Cert.KernelIdeal.nD Cert.KernelIdeal.τ).loc Cert.KernelIdeal.main_arg2) (ix2 b t)
        = BitVec.ofNat 32 (lab b t).val := fun c => labels_of _ _ _ _ (hpre c)
  choose lab hlab using hl
  refine ⟨_, _, kernel_run m g lab hlab, ?_⟩
  refine (θ_run Cert.ReferenceIdeal.defs _ _).mono (fun r h c => ?_) (Cert.ReferenceIdeal.Value.run m' g')
  obtain ⟨h0, h1, hr⟩ := h c
  obtain ⟨a0, a1, a2, a3⟩ := hargs c
  refine ⟨h0.trans ?_, h1.trans ?_, hr⟩
  · rw [search_eq (StableHlo.launchContents m' c) (lab c) fun b t => (congrFun a2 (ix2 b t)).trans (hlab c b t)]
    have e : matchCost (fun b q k => StableHlo.launchContents m' c (Proc.devRef .tc Cert.ReferenceIdeal.main_arg0) (ix3 b q k))
        (fun b q k => StableHlo.launchContents m' c (Proc.devRef .tc Cert.ReferenceIdeal.main_arg1) (ix3 b q k))
        (fun b t k => StableHlo.launchContents m' c (Proc.devRef .tc Cert.ReferenceIdeal.main_arg3) (ix3 b t k)) (lab c)
        = kcost m c (lab c) := by
      show matchCost (fun b q k => m' ((c.tc : Thread Cert.ReferenceIdeal.nD Cert.ReferenceIdeal.τ).loc Cert.ReferenceIdeal.main_arg0) (ix3 b q k))
        (fun b q k => m' ((c.tc : Thread Cert.ReferenceIdeal.nD Cert.ReferenceIdeal.τ).loc Cert.ReferenceIdeal.main_arg1) (ix3 b q k))
        (fun b t k => m' ((c.tc : Thread Cert.ReferenceIdeal.nD Cert.ReferenceIdeal.τ).loc Cert.ReferenceIdeal.main_arg3) (ix3 b t k)) (lab c) = _
      rw [a0, a1, a3]
      rfl
    rw [e]
  · funext i
    have hi : i = ix2 (i 0) (i 1) := by funext a; fin_cases a <;> rfl
    rw [hi]
    exact (rows_eq (i 0) (i 1)).symm

/-- Everything claimed: the three frames, the identity of the kernel and its idealization, and the equality of the results. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => reference_run m g, fun m g _ => reference_run m g, trivial, same_results⟩

end Cert.Proof

end
